-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v24_1) = v1 c
          ∧ r.2.mem ((c.tc : Thread Cert.ReferenceIdeal.nD Cert.ReferenceIdeal.τ).loc Cert.ReferenceIdeal.main_v24_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x4096 : Shape := ⟨3, ![1, 256, 4096]⟩
abbrev S14336x128 : Shape := ⟨2, ![14336, 128]⟩
abbrev S14336 : Shape := ⟨1, ![14336]⟩
abbrev S_ : Shape := ⟨0, ![]⟩

class Facts : Prop where
  bcast_S_S1x256x4096 : S_.BroadcastsInDim S1x256x4096 (![] : Fin 0 → Fin S1x256x4096.rank)
  reducesTo_S1x256x4096_S_d0_1_2 : S1x256x4096.ReducesTo [0, 1, 2] S_
  h_S_ : 0 < S_.numel

variable [Facts]

def fn {F : FTy → Type} [FloatOps F] (main_arg0 : FVec F S1x256x4096 .bf16) (main_arg1 : IVec S14336x128 32) (main_arg2 : IVec S14336x128 32) (main_arg3 : FVec F S14336 .bf16) : IVec S_ 1 :=
  let main_v0 : FVec F S1x256x4096 .bf16 := Host.absf main_arg0
  let main_cst : FVec F S_ .bf16 := constant S_ .bf16 0x7F7F#16
  let main_v1 : FVec F S1x256x4096 .bf16 := broadcastInDim S1x256x4096 ![] bcast_S_S1x256x4096 main_cst
  let main_v2 : IVec S1x256x4096 1 := cmpf .ole main_v0 main_v1
  let main_c : IVec S_ 1 := constantI S_ 1 1#1
  let main_v3 : IVec S_ 1 := (fun x v => Host.reduce IntOp.andi x v reducesTo_S1x256x4096_S_d0_1_2 h_S_) main_v2 main_c
  main_v3
-- ==== Kernel.lean ====
abbrev S1x256x4096 : Shape := ⟨3, ![1, 256, 4096]⟩
abbrev S14336x128 : Shape := ⟨2, ![14336, 128]⟩
abbrev S14336 : Shape := ⟨1, ![14336]⟩
abbrev S256x4096 : Shape := ⟨2, ![256, 4096]⟩
abbrev S1x14336 : Shape := ⟨2, ![1, 14336]⟩
abbrev S256x14336 : Shape := ⟨2, ![256, 14336]⟩
abbrev S256x1 : Shape := ⟨2, ![256, 1]⟩
abbrev S1024x128 : Shape := ⟨2, ![1024, 128]⟩
abbrev S1x1024 : Shape := ⟨2, ![1, 1024]⟩
abbrev S256x1024 : Shape := ⟨2, ![256, 1024]⟩
abbrev S4096x1024 : Shape := ⟨2, ![4096, 1024]⟩
abbrev S256 : Shape := ⟨1, ![256]⟩
abbrev S256x256 : Shape := ⟨2, ![256, 256]⟩
abbrev S128x1024 : Shape := ⟨2, ![128, 1024]⟩
abbrev S8x1024 : Shape := ⟨2, ![8, 1024]⟩
abbrev S32x1024 : Shape := ⟨2, ![32, 1024]⟩

abbrev nBuf : Space → Nat
  | .hbm => 9
  | .vmem => 14
  | .smem => 0
  | _ => 0

abbrev bufTy : (tb : Table) → Fin (tcTables nBuf tb) → BufTy
  | .hbm, ⟨0, _⟩ => ⟨S1x256x4096, .bf16⟩
  | .hbm, ⟨1, _⟩ => ⟨S14336x128, .i32⟩
  | .hbm, ⟨2, _⟩ => ⟨S14336x128, .i32⟩
  | .hbm, ⟨3, _⟩ => ⟨S14336, .bf16⟩
  | .hbm, ⟨4, _⟩ => ⟨S256x4096, .bf16⟩
  | .hbm, ⟨5, _⟩ => ⟨S1x14336, .bf16⟩
  | .hbm, ⟨6, _⟩ => ⟨S256x14336, .bf16⟩
  | .hbm, ⟨7, _⟩ => ⟨S256x4096, .fp8e4m3⟩
  | .hbm, ⟨8, _⟩ => ⟨S256x1, .f32⟩
  | .local _ .vmem, ⟨0, _⟩ => ⟨S256x4096, .bf16⟩
  | .local _ .vmem, ⟨1, _⟩ => ⟨S1024x128, .i32⟩
  | .local _ .vmem, ⟨2, _⟩ => ⟨S1024x128, .i32⟩
  | .local _ .vmem, ⟨3, _⟩ => ⟨S1024x128, .i32⟩
  | .local _ .vmem, ⟨4, _⟩ => ⟨S1024x128, .i32⟩
  | .local _ .vmem, ⟨5, _⟩ => ⟨S1x1024, .bf16⟩
  | .local _ .vmem, ⟨6, _⟩ => ⟨S1x1024, .bf16⟩
  | .local _ .vmem, ⟨7, _⟩ => ⟨S256x1024, .bf16⟩
  | .local _ .vmem, ⟨8, _⟩ => ⟨S256x1024, .bf16⟩
  | .local _ .vmem, ⟨9, _⟩ => ⟨S256x4096, .fp8e4m3⟩
  | .local _ .vmem, ⟨10, _⟩ => ⟨S256x1, .f32⟩
  | .local _ .vmem, ⟨11, _⟩ => ⟨S256x4096, .fp8e4m3⟩
  | .local _ .vmem, ⟨12, _⟩ => ⟨S4096x1024, .fp8e4m3⟩
  | .local _ .vmem, ⟨13, _⟩ => ⟨S256x1, .f32⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x256x4096 : Shape := ⟨3, ![1, 256, 4096]⟩
abbrev S14336x128 : Shape := ⟨2, ![14336, 128]⟩
abbrev S14336 : Shape := ⟨1, ![14336]⟩
abbrev S14336x128x1 : Shape := ⟨3, ![14336, 128, 1]⟩
abbrev S32 : Shape := ⟨1, ![32]⟩
abbrev S1x1x32 : Shape := ⟨3, ![1, 1, 32]⟩
abbrev S14336x128x32 : Shape := ⟨3, ![14336, 128, 32]⟩
abbrev S_ : Shape := ⟨0, ![]⟩
abbrev S14336x4096 : Shape := ⟨2, ![14336, 4096]⟩
abbrev S256x4096 : Shape := ⟨2, ![256, 4096]⟩
abbrev S1x14336 : Shape := ⟨2, ![1, 14336]⟩
abbrev S256x14336 : Shape := ⟨2, ![256, 14336]⟩
abbrev S256x1 : Shape := ⟨2, ![256, 1]⟩
abbrev S256 : Shape := ⟨1, ![256]⟩
abbrev S256x256 : Shape := ⟨2, ![256, 256]⟩

abbrev nBuf : Space → Nat
  | .hbm => 35
  | .vmem => 6
  | .smem => 0
  | _ => 0

abbrev bufTy : (tb : Table) → Fin (tcTables nBuf tb) → BufTy
  | .hbm, ⟨0, _⟩ => ⟨S1x256x4096, .bf16⟩
  | .hbm, ⟨1, _⟩ => ⟨S14336x128, .i32⟩
  | .hbm, ⟨2, _⟩ => ⟨S14336x128, .i32⟩
  | .hbm, ⟨3, _⟩ => ⟨S14336, .bf16⟩
  | .hbm, ⟨4, _⟩ => ⟨S14336x128x1, .i32⟩
  | .hbm, ⟨5, _⟩ => ⟨S32, .i32⟩
  | .hbm, ⟨6, _⟩ => ⟨S1x1x32, .i32⟩
  | .hbm, ⟨7, _⟩ => ⟨S14336x128x32, .i32⟩
  | .hbm, ⟨8, _⟩ => ⟨S14336x128x32, .i32⟩
  | .hbm, ⟨9, _⟩ => ⟨S14336x128x32, .i32⟩
  | .hbm, ⟨10, _⟩ => ⟨S_, .i32⟩
  | .hbm, ⟨11, _⟩ => ⟨S14336x128x32, .i32⟩
  | .hbm, ⟨12, _⟩ => ⟨S14336x128x32, .i32⟩
  | .hbm, ⟨13, _⟩ => ⟨S14336x128x1, .i32⟩
  | .hbm, ⟨14, _⟩ => ⟨S32, .i32⟩
  | .hbm, ⟨15, _⟩ => ⟨S1x1x32, .i32⟩
  | .hbm, ⟨16, _⟩ => ⟨S14336x128x32, .i32⟩
  | .hbm, ⟨17, _⟩ => ⟨S14336x128x32, .i32⟩
  | .hbm, ⟨18, _⟩ => ⟨S14336x128x32, .i32⟩
  | .hbm, ⟨19, _⟩ => ⟨S_, .i32⟩
  | .hbm, ⟨20, _⟩ => ⟨S14336x128x32, .i32⟩
  | .hbm, ⟨21, _⟩ => ⟨S14336x128x32, .i32⟩
  | .hbm, ⟨22, _⟩ => ⟨S_, .i32⟩
  | .hbm, ⟨23, _⟩ => ⟨S14336x128x32, .i32⟩
  | .hbm, ⟨24, _⟩ => ⟨S14336x128x32, .i32⟩
  | .hbm, ⟨25, _⟩ => ⟨S_, .i32⟩
  | .hbm, ⟨26, _⟩ => ⟨S14336x128x32, .i32⟩
  | .hbm, ⟨27, _⟩ => ⟨S14336x128x32, .i32⟩
  | .hbm, ⟨28, _⟩ => ⟨S14336x128x32, .i32⟩
  | .hbm, ⟨29, _⟩ => ⟨S14336x4096, .i32⟩
  | .hbm, ⟨30, _⟩ => ⟨S256x4096, .bf16⟩
  | .hbm, ⟨31, _⟩ => ⟨S1x14336, .bf16⟩
  | .hbm, ⟨32, _⟩ => ⟨S256x14336, .bf16⟩
  | .hbm, ⟨33, _⟩ => ⟨S256x4096, .fp8e4m3⟩
  | .hbm, ⟨34, _⟩ => ⟨S256x1, .f32⟩
  | .local _ .vmem, ⟨0, _⟩ => ⟨S256x4096, .bf16⟩
  | .local _ .vmem, ⟨1, _⟩ => ⟨S14336x4096, .i32⟩
  | .local _ .vmem, ⟨2, _⟩ => ⟨S1x14336, .bf16⟩
  | .local _ .vmem, ⟨3, _⟩ => ⟨S256x14336, .bf16⟩
  | .local _ .vmem, ⟨4, _⟩ => ⟨S256x4096, .fp8e4m3⟩
  | .local _ .vmem, ⟨5, _⟩ => ⟨S256x1, .f32⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelKit.lean ====
/- What the two runs of the kernel body share: the condition of the body's one conditional in closed form over the
   grid, where the windows are idle, and the staging and scratch memrefs by name. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x4096 .fp8e4m3 := Memref.whole cc0_scratch0
abbrev scM0_1 : Memref sig .tc .vmem S4096x1024 .fp8e4m3 := Memref.whole cc0_scratch1
abbrev scM0_2 : Memref sig .tc .vmem S256x1 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelRunA.lean ====
/- The kernel body at the first point of the grid, run once for any staging memrefs. -/
module

public import proofs.«01_k».proof.Proof.KernelKit

@[expose] public section

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body at a point where its conditional IS taken (the first point of the grid): on whole staging memrefs, the
    inputs' at their contents and everything else at anything, the body runs to the end, and each output and each
    scratch buffer the later points read ends overwritten by a list of pieces, which the run finds. -/
def kernelRunA (c : Dev nD) (i : grid0.Coords) (arg1 : Memref sig .tc .vmem S256x4096 .bf16) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1x1024 .bf16) (harg4 : arg4.IsWhole) (arg5 : Memref sig .tc .vmem S256x1024 .bf16) (harg5 : arg5.IsWhole) (arg6 : Memref sig .tc .vmem S256x4096 .fp8e4m3) (harg6 : arg6.IsWhole) (arg7 : Memref sig .tc .vmem S256x1 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1 .f32) (harg10 : arg10.IsWhole) (hc0 : cond0_0 i)
    (x0 : Vec F S256x4096 .bf16) (x1 : Vec F S1024x128 .i32) (x2 : Vec F S1024x128 .i32) (x3 : Vec F S1x1024 .bf16) :
      Σ' (L4 : List (View.Piece (Elt F) S256x1024 .bf16)) (L5 : List (View.Piece (Elt F) S256x4096 .fp8e4m3)) (L6 : List (View.Piece (Elt F) S256x1 .f32)) (LS0 : List (View.Piece (Elt F) S256x4096 .fp8e4m3)), { LS2 : List (View.Piece (Elt F) S256x1 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ d, owns (c : Thread nD τ) arg9 fullShare d) ∗ (∃ f, arg10.view.loc (c : Thread nD τ) ↦[arg10.view.set]{fullShare} arg10.view.writes (Elt F) f LS2)) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_ternary_linear_eq_skeleton]; unfold cc0_ternary_linear_skel
    simp only [k0_part37_eq_skeleton, k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    isplitl [HS1]
    · iexists _, _; isplitr; swap; · iexact HS1
      ipureintro; rfl
    iexists _; iexact HS2

end Cert.KernelIdeal.Hand

end
-- ==== Proof.KernelRunB.lean ====
/- The kernel body at every later point of the grid, run once for any staging memrefs. -/
module

public import proofs.«01_k».proof.Proof.KernelRunA

@[expose] public section

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- The body at a point where its conditional is NOT taken (every later point): the quantised activations and the
    halved scale are read from the scratch buffers `xq` and `hf`, only the product's block is stored, and everything
    else stays as it was. -/
def kernelRunB (c : Dev nD) (i : grid0.Coords) (arg1 : Memref sig .tc .vmem S256x4096 .bf16) (harg1 : arg1.IsWhole) (arg2 : Memref sig .tc .vmem S1024x128 .i32) (harg2 : arg2.IsWhole) (arg3 : Memref sig .tc .vmem S1024x128 .i32) (harg3 : arg3.IsWhole) (arg4 : Memref sig .tc .vmem S1x1024 .bf16) (harg4 : arg4.IsWhole) (arg5 : Memref sig .tc .vmem S256x1024 .bf16) (harg5 : arg5.IsWhole) (arg6 : Memref sig .tc .vmem S256x4096 .fp8e4m3) (harg6 : arg6.IsWhole) (arg7 : Memref sig .tc .vmem S256x1 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1 .f32) (harg10 : arg10.IsWhole) (hc0 : ¬cond0_0 i)
    (x0 : Vec F S256x4096 .bf16) (x1 : Vec F S1024x128 .i32) (x2 : Vec F S1024x128 .i32) (x3 : Vec F S1x1024 .bf16)
    (x5 : Vec F S256x4096 .fp8e4m3) (x6 : Vec F S256x1 .f32) (xq : Vec F S256x4096 .fp8e4m3) (hf : Vec F S256x1 .f32) :
      { L4 : List (View.Piece (Elt F) S256x1024 .bf16) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ owns (c : Thread nD τ) arg8 fullShare xq ∗ (∃ d, owns (c : Thread nD τ) arg9 fullShare d) ∗ owns (c : Thread nD τ) arg10 fullShare hf
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare x5 ∗ owns (c : Thread nD τ) arg7 fullShare x6 ∗ owns (c : Thread nD τ) arg8 fullShare xq ∗ (∃ d, owns (c : Thread nD τ) arg9 fullShare d) ∗ owns (c : Thread nD τ) arg10 fullShare hf) -∗ K ⟨⟩))
          ⊢ wp frame (wpE (defs₀ (F := F)) Variants.none c none) E (cc0_ternary_linear i arg1 harg1 arg2 harg2 arg3 harg3 arg4 harg4 arg5 harg5 arg6 harg6 arg7 harg7 arg8 harg8 arg9 harg9 arg10 harg10) K } := by
  refine ⟨?_, fun E K => ?run⟩
  case run =>
    simp only [cc0_ternary_linear_eq_skeleton]; unfold cc0_ternary_linear_skel
    simp only [k0_part37_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6; obtain rfl := harg8.eq_unread hfs0; obtain rfl := harg10.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _, _; isplitr; swap; · iexact HS1
      ipureintro; rfl
    iexists _; isplitr; · ipureintro; exact harg10.read_unread _
    iexact HS2

end Cert.KernelIdeal.Hand

end
-- ==== Proof.KernelTile.lean ====
/- What the weight expansion of one block leaves: the ternary plane words of a column, spread over 4096 rows of
   eight-bit floats. -/
module

public import proofs.«01_k».proof.Proof.KernelKit
public import Idealize.ShloMosaic.Lib.BitcastPair
public import Idealize.ShloMosaic.Lib.Pipeline.Value
public import Idealize.ShloMosaic.Lib.ValueIdx

@[expose] public section

noncomputable section

namespace Cert.KernelIdeal.Hand

open Cert.KernelIdeal Cert.KernelIdeal.Gen
open Idealize.ShloMosaic

variable {F : FTy → Type} [FloatOps F]

/-- The byte of a weight: its sign bit at place 7, its mask bit at place 6, zeros below. -/
def signMask (s m : Bool) : BitVec 8 := (bif s then 128#8 else 0#8) ||| (bif m then 64#8 else 0#8)

theorem signMask_getLsbD (s m : Bool) (q : Nat) (hq : q < 8) :
    (signMask s m).getLsbD q = ((s && decide (q = 7)) || (m && decide (q = 6))) := by
  have hq' : q = 0 ∨ q = 1 ∨ q = 2 ∨ q = 3 ∨ q = 4 ∨ q = 5 ∨ q = 6 ∨ q = 7 := by omega
  rcases hq' with rfl | rfl | rfl | rfl | rfl | rfl | rfl | rfl <;> cases s <;> cases m <;> rfl

/-- Bit `8 b + q` of an odd plane pair's word, shifted and masked, is bit `q` of the byte of bit `8 b + 2 k + 1`. -/
theorem hi_bit (m s : BitVec 32) (k b q : Nat) (hk : k < 4) (hb : b < 4) (hq : q < 8) :
    ((((s &&& 2863311530#32) ||| ((m &&& 2863311530#32) >>> 1)) <<< (6 - 2 * k)) &&& 3233857728#32).getLsbD (8 * b + q)
      = (signMask (s.getLsbD (8 * b + (2 * k + 1))) (m.getLsbD (8 * b + (2 * k + 1)))).getLsbD q := by
  rw [signMask_getLsbD _ _ _ hq]
  have hb' : b = 0 ∨ b = 1 ∨ b = 2 ∨ b = 3 := by omega
  have hk' : k = 0 ∨ k = 1 ∨ k = 2 ∨ k = 3 := by omega
  have hq' : q = 0 ∨ q = 1 ∨ q = 2 ∨ q = 3 ∨ q = 4 ∨ q = 5 ∨ q = 6 ∨ q = 7 := by omega
  rcases hq' with rfl | rfl | rfl | rfl | rfl | rfl | rfl | rfl <;> rcases hb' with rfl | rfl | rfl | rfl <;>
    rcases hk' with rfl | rfl | rfl | rfl <;>
    simp [BitVec.getLsbD_and, BitVec.getLsbD_or, BitVec.getLsbD_shiftLeft, BitVec.getLsbD_ushiftRight]

/-- … and of an even plane pair's word, of bit `8 b + 2 k`. -/
theorem lo_bit (m s : BitVec 32) (k b q : Nat) (hk : k < 4) (hb : b < 4) (hq : q < 8) :
    (((((s &&& 1431655765#32) <<< 1) ||| (m &&& 1431655765#32)) <<< (6 - 2 * k)) &&& 3233857728#32).getLsbD (8 * b + q)
      = (signMask (s.getLsbD (8 * b + 2 * k)) (m.getLsbD (8 * b + 2 * k))).getLsbD q := by
  rw [signMask_getLsbD _ _ _ hq]
  have hb' : b = 0 ∨ b = 1 ∨ b = 2 ∨ b = 3 := by omega
  have hk' : k = 0 ∨ k = 1 ∨ k = 2 ∨ k = 3 := by omega
  have hq' : q = 0 ∨ q = 1 ∨ q = 2 ∨ q = 3 ∨ q = 4 ∨ q = 5 ∨ q = 6 ∨ q = 7 := by omega
  rcases hq' with rfl | rfl | rfl | rfl | rfl | rfl | rfl | rfl <;> rcases hb' with rfl | rfl | rfl | rfl <;>
    rcases hk' with rfl | rfl | rfl | rfl <;>
    simp [BitVec.getLsbD_and, BitVec.getLsbD_or, BitVec.getLsbD_shiftLeft, BitVec.getLsbD_ushiftRight]

/-- The expanded weights of a block: row `256 g + 32 j + 4 i + b` of column `n` is the byte of bit `8 b + j` of plane
    word `8 g + i` of row `n`, read as an eight-bit float. -/
def wOf (x1 x2 : S1024x128.Idx → BitVec 32) : Vec F S4096x1024 .fp8e4m3 := fun y =>
  let r : Nat := (y 0).val
  let i : Fin 128 := ⟨8 * (r / 256) + r % 32 / 4, by have := (y 0).isLt; change (y 0).val < 4096 at this; omega⟩
  let n : Fin 1024 := y 1
  FloatOps.ofBits .fp8e4m3 (signMask ((x2 (ValueIdx.ix2 n i)).getLsbD (8 * (r % 4) + r % 256 / 32))
    ((x1 (ValueIdx.ix2 n i)).getLsbD (8 * (r % 4) + r % 256 / 32)))

/-- One store's payload: eight rows of plane-pair words, shifted, masked, and read byte by byte. -/
def tile (q : IVec S128x1024 32) (o : Nat) (h : S128x1024.Slices ![o, 0] S8x1024) (sh : BitVec 32) : FVec F S32x1024 .fp8e4m3 :=
  shapeCast S32x1024 (bitcastToFloat .fp8e4m3 (bitcast S32x1024 8
    (andi (shli (extractStridedSlice S8x1024 ![o, 0] q h) (broadcast S8x1024 sh)) (broadcast S8x1024 3233857728#32))
    bitcasts_S8x1024_w32_S32x1024_w8)) shapeCasts_S32x1024_S32x1024

/-- A transposed plane at word `i` of column `n`. -/
theorem plane_apply (x : Vec F S1024x128 .i32) (y : S128x1024.Idx) :
    k0_pay32 x y = x (ValueIdx.ix2 (y 1 : Fin 1024) (y 0 : Fin 128)) := by
  unfold k0_pay32
  refine transpose_apply _ _ _ _ _ fun b => ?_
  fin_cases b <;> rfl

theorem hiWord_apply (x1 x2 : Vec F S1024x128 .i32) (y : S128x1024.Idx) :
    k0_pay34 x1 x2 y = ((x2 (ValueIdx.ix2 (y 1 : Fin 1024) (y 0 : Fin 128)) &&& 2863311530#32)
      ||| ((x1 (ValueIdx.ix2 (y 1 : Fin 1024) (y 0 : Fin 128)) &&& 2863311530#32) >>> 1) : BitVec 32) := by
  rw [← plane_apply (F := F) x1 y, ← plane_apply (F := F) x2 y]
  rfl

theorem loWord_apply (x1 x2 : Vec F S1024x128 .i32) (y : S128x1024.Idx) :
    k0_pay35 x1 x2 y = (((x2 (ValueIdx.ix2 (y 1 : Fin 1024) (y 0 : Fin 128)) &&& 1431655765#32) <<< 1)
      ||| (x1 (ValueIdx.ix2 (y 1 : Fin 1024) (y 0 : Fin 128)) &&& 1431655765#32) : BitVec 32) := by
  rw [← plane_apply (F := F) x1 y, ← plane_apply (F := F) x2 y]
  rfl

/-- A tile at row `a` of column `n`: the byte `a % 4` of word `o + a / 4`, shifted and masked. -/
theorem tile_apply (q : IVec S128x1024 32) (o : Nat) (h : S128x1024.Slices ![o, 0] S8x1024) (k : Nat) (hk : k < 4)
    (x : S32x1024.Idx) (w : S128x1024.Idx) (hw0 : (w 0).val = o + (x 0).val / 4) (hw1 : (w 1).val = (x 1).val)
    (d : BitVec 8) (hd : ∀ e, e < 8 → ((q w <<< (6 - 2 * k)) &&& 3233857728#32).getLsbD (8 * ((x 0).val % 4) + e) = d.getLsbD e) :
    tile (F := F) q o h (BitVec.ofNat 32 (6 - 2 * k)) x = FloatOps.ofBits .fp8e4m3 d := by
  unfold tile
  rw [shapeCast_self]
  unfold bitcastToFloat
  refine congrArg _ ?_
  refine BitVec.eq_of_getLsbD_eq fun e he => ?_
  have hx0 : S32x1024.row x = (x 0).val := rfl
  rw [bitcast_getLsbD _ _ x e he (by decide), ← hd e he]
  have e1 : (S32x1024.row x * 8 + e) % 32 = 8 * ((x 0).val % 4) + e := by rw [hx0]; change e < 8 at he; omega
  have e2 : (S32x1024.row x * 8 + e) / 32 = (x 0).val / 4 := by rw [hx0]; change e < 8 at he; omega
  rw [e1]
  refine congrArg (fun z : BitVec 32 => z.getLsbD _) ?_
  show IntOp.andi (IntOp.shli .vector _ (BitVec.ofNat 32 (6 - 2 * k))) 3233857728#32 = _
  have e3 : (BitVec.ofNat 32 (6 - 2 * k)).toNat = 6 - 2 * k := by
    rw [BitVec.toNat_ofNat]; exact Nat.mod_eq_of_lt (by omega)
  unfold IntOp.andi IntOp.shli
  rw [if_pos (by rw [e3]; omega), BitVec.shiftLeft_eq', e3]
  refine congrArg (fun z : BitVec 32 => (z <<< (6 - 2 * k)) &&& 3233857728#32) ?_
  refine extractStridedSlice_apply _ _ _ _ w fun a => ?_
  fin_cases a
  · show (w 0).val = o + _
    rw [hw0]
    refine congrArg (o + ·) ?_
    exact (e2.symm.trans (Shape.Bitcasts.srcIdx_row _ _ _ _ _ rfl).symm)
  · show (w 1).val = 0 + _
    rw [hw1, Nat.zero_add]
    refine (Shape.Bitcasts.srcIdx_other bitcasts_S8x1024_w32_S32x1024_w8 x _ _ (1 : Fin 2) ?_).symm
    decide

/-- An odd bit's tile is the weights' block of rows. -/
theorem hi_piece (x1 x2 : Vec F S1024x128 .i32) (g k o r0 : Nat) (sh : BitVec 32) (hg : g < 16) (hk : k < 4)
    (ho : o = 8 * g) (hr : r0 = 256 * g + 32 * (2 * k + 1)) (hsh : sh = BitVec.ofNat 32 (6 - 2 * k))
    (h : S128x1024.Slices ![o, 0] S8x1024) (inb : ∀ a, (![r0, 0] : Fin 2 → Nat) a + S32x1024.size a ≤ S4096x1024.size a)
    (x : S32x1024.Idx) :
    tile (k0_pay34 x1 x2) o h sh x = wOf (F := F) x1 x2 ((Rect.unit (s := S4096x1024) ![r0, 0] S32x1024.size inb).emb x) := by
  subst ho hr hsh
  have h0 : (x 0).val < 32 := (x 0).isLt
  have hr : (((Rect.unit (s := S4096x1024) ![256 * g + 32 * (2 * k + 1), 0] S32x1024.size inb).emb x) 0).val
      = 256 * g + 32 * (2 * k + 1) + (x 0).val := by rw [Rect.emb_apply]; exact congrArg _ (Nat.one_mul _)
  have hn : ((Rect.unit (s := S4096x1024) ![256 * g + 32 * (2 * k + 1), 0] S32x1024.size inb).emb x) 1 = x 1 :=
    Fin.ext (by rw [Rect.emb_apply]; exact (congrArg _ (Nat.one_mul _)).trans (Nat.zero_add _))
  refine tile_apply _ _ h k hk x (ValueIdx.ix2 (⟨8 * g + (x 0).val / 4, by omega⟩ : Fin 128) (x 1)) rfl rfl _ fun e he => ?_
  rw [hiWord_apply, hi_bit _ _ k _ e hk (by omega) he]
  have a1 : (256 * g + 32 * (2 * k + 1) + (x 0).val) % 4 = (x 0).val % 4 := by omega
  have a2 : (256 * g + 32 * (2 * k + 1) + (x 0).val) % 256 / 32 = 2 * k + 1 := by omega
  have a3 : 8 * ((256 * g + 32 * (2 * k + 1) + (x 0).val) / 256) + (256 * g + 32 * (2 * k + 1) + (x 0).val) % 32 / 4
      = 8 * g + (x 0).val / 4 := by omega
  simp only [hr, hn, a1, a2, a3]

/-- An even bit's tile is the weights' block of rows. -/
theorem lo_piece (x1 x2 : Vec F S1024x128 .i32) (g k o r0 : Nat) (sh : BitVec 32) (hg : g < 16) (hk : k < 4)
    (ho : o = 8 * g) (hr : r0 = 256 * g + 32 * (2 * k)) (hsh : sh = BitVec.ofNat 32 (6 - 2 * k))
    (h : S128x1024.Slices ![o, 0] S8x1024) (inb : ∀ a, (![r0, 0] : Fin 2 → Nat) a + S32x1024.size a ≤ S4096x1024.size a)
    (x : S32x1024.Idx) :
    tile (k0_pay35 x1 x2) o h sh x = wOf (F := F) x1 x2 ((Rect.unit (s := S4096x1024) ![r0, 0] S32x1024.size inb).emb x) := by
  subst ho hr hsh
  have h0 : (x 0).val < 32 := (x 0).isLt
  have hr : (((Rect.unit (s := S4096x1024) ![256 * g + 32 * (2 * k), 0] S32x1024.size inb).emb x) 0).val
      = 256 * g + 32 * (2 * k) + (x 0).val := by rw [Rect.emb_apply]; exact congrArg _ (Nat.one_mul _)
  have hn : ((Rect.unit (s := S4096x1024) ![256 * g + 32 * (2 * k), 0] S32x1024.size inb).emb x) 1 = x 1 :=
    Fin.ext (by rw [Rect.emb_apply]; exact (congrArg _ (Nat.one_mul _)).trans (Nat.zero_add _))
  refine tile_apply _ _ h k hk x (ValueIdx.ix2 (⟨8 * g + (x 0).val / 4, by omega⟩ : Fin 128) (x 1)) rfl rfl _ fun e he => ?_
  rw [loWord_apply, lo_bit _ _ k _ e hk (by omega) he]
  have a1 : (256 * g + 32 * (2 * k) + (x 0).val) % 4 = (x 0).val % 4 := by omega
  have a2 : (256 * g + 32 * (2 * k) + (x 0).val) % 256 / 32 = 2 * k := by omega
  have a3 : 8 * ((256 * g + 32 * (2 * k) + (x 0).val) / 256) + (256 * g + 32 * (2 * k) + (x 0).val) % 32 / 4
      = 8 * g + (x 0).val / 4 := by omega
  simp only [hr, hn, a1, a2, a3]

/-- The stores of a block's expanded weights, last first: for each group `g` of eight words and each bit `j`, one tile at
    rows `256 g + 32 j …`. -/
def wPieces (x1 x2 : Vec F S1024x128 .i32) : List (View.Piece (Elt F) S4096x1024 .fp8e4m3) :=
   ⟨Rect.unit ![4064, 0] S32x1024.size inb_S4096x1024_S32x1024_4064_0, tile (k0_pay34 x1 x2) 120 slices_S128x1024_o120_0_S8x1024 0#32⟩ ::
   ⟨Rect.unit ![4032, 0] S32x1024.size inb_S4096x1024_S32x1024_4032_0, tile (k0_pay35 x1 x2) 120 slices_S128x1024_o120_0_S8x1024 0#32⟩ ::
   ⟨Rect.unit ![4000, 0] S32x1024.size inb_S4096x1024_S32x1024_4000_0, tile (k0_pay34 x1 x2) 120 slices_S128x1024_o120_0_S8x1024 2#32⟩ ::
   ⟨Rect.unit ![3968, 0] S32x1024.size inb_S4096x1024_S32x1024_3968_0, tile (k0_pay35 x1 x2) 120 slices_S128x1024_o120_0_S8x1024 2#32⟩ ::
   ⟨Rect.unit ![3936, 0] S32x1024.size inb_S4096x1024_S32x1024_3936_0, tile (k0_pay34 x1 x2) 120 slices_S128x1024_o120_0_S8x1024 4#32⟩ ::
   ⟨Rect.unit ![3904, 0] S32x1024.size inb_S4096x1024_S32x1024_3904_0, tile (k0_pay35 x1 x2) 120 slices_S128x1024_o120_0_S8x1024 4#32⟩ ::
   ⟨Rect.unit ![3872, 0] S32x1024.size inb_S4096x1024_S32x1024_3872_0, tile (k0_pay34 x1 x2) 120 slices_S128x1024_o120_0_S8x1024 6#32⟩ ::
   ⟨Rect.unit ![3840, 0] S32x1024.size inb_S4096x1024_S32x1024_3840_0, tile (k0_pay35 x1 x2) 120 slices_S128x1024_o120_0_S8x1024 6#32⟩ ::
   ⟨Rect.unit ![3808, 0] S32x1024.size inb_S4096x1024_S32x1024_3808_0, tile (k0_pay34 x1 x2) 112 slices_S128x1024_o112_0_S8x1024 0#32⟩ ::
   ⟨Rect.unit ![3776, 0] S32x1024.size inb_S4096x1024_S32x1024_3776_0, tile (k0_pay35 x1 x2) 112 slices_S128x1024_o112_0_S8x1024 0#32⟩ ::
   ⟨Rect.unit ![3744, 0] S32x1024.size inb_S4096x1024_S32x1024_3744_0, tile (k0_pay34 x1 x2) 112 slices_S128x1024_o112_0_S8x1024 2#32⟩ ::
   ⟨Rect.unit ![3712, 0] S32x1024.size inb_S4096x1024_S32x1024_3712_0, tile (k0_pay35 x1 x2) 112 slices_S128x1024_o112_0_S8x1024 2#32⟩ ::
   ⟨Rect.unit ![3680, 0] S32x1024.size inb_S4096x1024_S32x1024_3680_0, tile (k0_pay34 x1 x2) 112 slices_S128x1024_o112_0_S8x1024 4#32⟩ ::
   ⟨Rect.unit ![3648, 0] S32x1024.size inb_S4096x1024_S32x1024_3648_0, tile (k0_pay35 x1 x2) 112 slices_S128x1024_o112_0_S8x1024 4#32⟩ ::
   ⟨Rect.unit ![3616, 0] S32x1024.size inb_S4096x1024_S32x1024_3616_0, tile (k0_pay34 x1 x2) 112 slices_S128x1024_o112_0_S8x1024 6#32⟩ ::
   ⟨Rect.unit ![3584, 0] S32x1024.size inb_S4096x1024_S32x1024_3584_0, tile (k0_pay35 x1 x2) 112 slices_S128x1024_o112_0_S8x1024 6#32⟩ ::
   ⟨Rect.unit ![3552, 0] S32x1024.size inb_S4096x1024_S32x1024_3552_0, tile (k0_pay34 x1 x2) 104 slices_S128x1024_o104_0_S8x1024 0#32⟩ ::
   ⟨Rect.unit ![3520, 0] S32x1024.size inb_S4096x1024_S32x1024_3520_0, tile (k0_pay35 x1 x2) 104 slices_S128x1024_o104_0_S8x1024 0#32⟩ ::
   ⟨Rect.unit ![3488, 0] S32x1024.size inb_S4096x1024_S32x1024_3488_0, tile (k0_pay34 x1 x2) 104 slices_S128x1024_o104_0_S8x1024 2#32⟩ ::
   ⟨Rect.unit ![3456, 0] S32x1024.size inb_S4096x1024_S32x1024_3456_0, tile (k0_pay35 x1 x2) 104 slices_S128x1024_o104_0_S8x1024 2#32⟩ ::
   ⟨Rect.unit ![3424, 0] S32x1024.size inb_S4096x1024_S32x1024_3424_0, tile (k0_pay34 x1 x2) 104 slices_S128x1024_o104_0_S8x1024 4#32⟩ ::
   ⟨Rect.unit ![3392, 0] S32x1024.size inb_S4096x1024_S32x1024_3392_0, tile (k0_pay35 x1 x2) 104 slices_S128x1024_o104_0_S8x1024 4#32⟩ ::
   ⟨Rect.unit ![3360, 0] S32x1024.size inb_S4096x1024_S32x1024_3360_0, tile (k0_pay34 x1 x2) 104 slices_S128x1024_o104_0_S8x1024 6#32⟩ ::
   ⟨Rect.unit ![3328, 0] S32x1024.size inb_S4096x1024_S32x1024_3328_0, tile (k0_pay35 x1 x2) 104 slices_S128x1024_o104_0_S8x1024 6#32⟩ ::
   ⟨Rect.unit ![3296, 0] S32x1024.size inb_S4096x1024_S32x1024_3296_0, tile (k0_pay34 x1 x2) 96 slices_S128x1024_o96_0_S8x1024 0#32⟩ ::
   ⟨Rect.unit ![3264, 0] S32x1024.size inb_S4096x1024_S32x1024_3264_0, tile (k0_pay35 x1 x2) 96 slices_S128x1024_o96_0_S8x1024 0#32⟩ ::
   ⟨Rect.unit ![3232, 0] S32x1024.size inb_S4096x1024_S32x1024_3232_0, tile (k0_pay34 x1 x2) 96 slices_S128x1024_o96_0_S8x1024 2#32⟩ ::
   ⟨Rect.unit ![3200, 0] S32x1024.size inb_S4096x1024_S32x1024_3200_0, tile (k0_pay35 x1 x2) 96 slices_S128x1024_o96_0_S8x1024 2#32⟩ ::
   ⟨Rect.unit ![3168, 0] S32x1024.size inb_S4096x1024_S32x1024_3168_0, tile (k0_pay34 x1 x2) 96 slices_S128x1024_o96_0_S8x1024 4#32⟩ ::
   ⟨Rect.unit ![3136, 0] S32x1024.size inb_S4096x1024_S32x1024_3136_0, tile (k0_pay35 x1 x2) 96 slices_S128x1024_o96_0_S8x1024 4#32⟩ ::
   ⟨Rect.unit ![3104, 0] S32x1024.size inb_S4096x1024_S32x1024_3104_0, tile (k0_pay34 x1 x2) 96 slices_S128x1024_o96_0_S8x1024 6#32⟩ ::
   ⟨Rect.unit ![3072, 0] S32x1024.size inb_S4096x1024_S32x1024_3072_0, tile (k0_pay35 x1 x2) 96 slices_S128x1024_o96_0_S8x1024 6#32⟩ ::
   ⟨Rect.unit ![3040, 0] S32x1024.size inb_S4096x1024_S32x1024_3040_0, tile (k0_pay34 x1 x2) 88 slices_S128x1024_o88_0_S8x1024 0#32⟩ ::
   ⟨Rect.unit ![3008, 0] S32x1024.size inb_S4096x1024_S32x1024_3008_0, tile (k0_pay35 x1 x2) 88 slices_S128x1024_o88_0_S8x1024 0#32⟩ ::
   ⟨Rect.unit ![2976, 0] S32x1024.size inb_S4096x1024_S32x1024_2976_0, tile (k0_pay34 x1 x2) 88 slices_S128x1024_o88_0_S8x1024 2#32⟩ ::
   ⟨Rect.unit ![2944, 0] S32x1024.size inb_S4096x1024_S32x1024_2944_0, tile (k0_pay35 x1 x2) 88 slices_S128x1024_o88_0_S8x1024 2#32⟩ ::
   ⟨Rect.unit ![2912, 0] S32x1024.size inb_S4096x1024_S32x1024_2912_0, tile (k0_pay34 x1 x2) 88 slices_S128x1024_o88_0_S8x1024 4#32⟩ ::
   ⟨Rect.unit ![2880, 0] S32x1024.size inb_S4096x1024_S32x1024_2880_0, tile (k0_pay35 x1 x2) 88 slices_S128x1024_o88_0_S8x1024 4#32⟩ ::
   ⟨Rect.unit ![2848, 0] S32x1024.size inb_S4096x1024_S32x1024_2848_0, tile (k0_pay34 x1 x2) 88 slices_S128x1024_o88_0_S8x1024 6#32⟩ ::
   ⟨Rect.unit ![2816, 0] S32x1024.size inb_S4096x1024_S32x1024_2816_0, tile (k0_pay35 x1 x2) 88 slices_S128x1024_o88_0_S8x1024 6#32⟩ ::
   ⟨Rect.unit ![2784, 0] S32x1024.size inb_S4096x1024_S32x1024_2784_0, tile (k0_pay34 x1 x2) 80 slices_S128x1024_o80_0_S8x1024 0#32⟩ ::
   ⟨Rect.unit ![2752, 0] S32x1024.size inb_S4096x1024_S32x1024_2752_0, tile (k0_pay35 x1 x2) 80 slices_S128x1024_o80_0_S8x1024 0#32⟩ ::
   ⟨Rect.unit ![2720, 0] S32x1024.size inb_S4096x1024_S32x1024_2720_0, tile (k0_pay34 x1 x2) 80 slices_S128x1024_o80_0_S8x1024 2#32⟩ ::
   ⟨Rect.unit ![2688, 0] S32x1024.size inb_S4096x1024_S32x1024_2688_0, tile (k0_pay35 x1 x2) 80 slices_S128x1024_o80_0_S8x1024 2#32⟩ ::
   ⟨Rect.unit ![2656, 0] S32x1024.size inb_S4096x1024_S32x1024_2656_0, tile (k0_pay34 x1 x2) 80 slices_S128x1024_o80_0_S8x1024 4#32⟩ ::
   ⟨Rect.unit ![2624, 0] S32x1024.size inb_S4096x1024_S32x1024_2624_0, tile (k0_pay35 x1 x2) 80 slices_S128x1024_o80_0_S8x1024 4#32⟩ ::
   ⟨Rect.unit ![2592, 0] S32x1024.size inb_S4096x1024_S32x1024_2592_0, tile (k0_pay34 x1 x2) 80 slices_S128x1024_o80_0_S8x1024 6#32⟩ ::
   ⟨Rect.unit ![2560, 0] S32x1024.size inb_S4096x1024_S32x1024_2560_0, tile (k0_pay35 x1 x2) 80 slices_S128x1024_o80_0_S8x1024 6#32⟩ ::
   ⟨Rect.unit ![2528, 0] S32x1024.size inb_S4096x1024_S32x1024_2528_0, tile (k0_pay34 x1 x2) 72 slices_S128x1024_o72_0_S8x1024 0#32⟩ ::
   ⟨Rect.unit ![2496, 0] S32x1024.size inb_S4096x1024_S32x1024_2496_0, tile (k0_pay35 x1 x2) 72 slices_S128x1024_o72_0_S8x1024 0#32⟩ ::
   ⟨Rect.unit ![2464, 0] S32x1024.size inb_S4096x1024_S32x1024_2464_0, tile (k0_pay34 x1 x2) 72 slices_S128x1024_o72_0_S8x1024 2#32⟩ ::
   ⟨Rect.unit ![2432, 0] S32x1024.size inb_S4096x1024_S32x1024_2432_0, tile (k0_pay35 x1 x2) 72 slices_S128x1024_o72_0_S8x1024 2#32⟩ ::
   ⟨Rect.unit ![2400, 0] S32x1024.size inb_S4096x1024_S32x1024_2400_0, tile (k0_pay34 x1 x2) 72 slices_S128x1024_o72_0_S8x1024 4#32⟩ ::
   ⟨Rect.unit ![2368, 0] S32x1024.size inb_S4096x1024_S32x1024_2368_0, tile (k0_pay35 x1 x2) 72 slices_S128x1024_o72_0_S8x1024 4#32⟩ ::
   ⟨Rect.unit ![2336, 0] S32x1024.size inb_S4096x1024_S32x1024_2336_0, tile (k0_pay34 x1 x2) 72 slices_S128x1024_o72_0_S8x1024 6#32⟩ ::
   ⟨Rect.unit ![2304, 0] S32x1024.size inb_S4096x1024_S32x1024_2304_0, tile (k0_pay35 x1 x2) 72 slices_S128x1024_o72_0_S8x1024 6#32⟩ ::
   ⟨Rect.unit ![2272, 0] S32x1024.size inb_S4096x1024_S32x1024_2272_0, tile (k0_pay34 x1 x2) 64 slices_S128x1024_o64_0_S8x1024 0#32⟩ ::
   ⟨Rect.unit ![2240, 0] S32x1024.size inb_S4096x1024_S32x1024_2240_0, tile (k0_pay35 x1 x2) 64 slices_S128x1024_o64_0_S8x1024 0#32⟩ ::
   ⟨Rect.unit ![2208, 0] S32x1024.size inb_S4096x1024_S32x1024_2208_0, tile (k0_pay34 x1 x2) 64 slices_S128x1024_o64_0_S8x1024 2#32⟩ ::
   ⟨Rect.unit ![2176, 0] S32x1024.size inb_S4096x1024_S32x1024_2176_0, tile (k0_pay35 x1 x2) 64 slices_S128x1024_o64_0_S8x1024 2#32⟩ ::
   ⟨Rect.unit ![2144, 0] S32x1024.size inb_S4096x1024_S32x1024_2144_0, tile (k0_pay34 x1 x2) 64 slices_S128x1024_o64_0_S8x1024 4#32⟩ ::
   ⟨Rect.unit ![2112, 0] S32x1024.size inb_S4096x1024_S32x1024_2112_0, tile (k0_pay35 x1 x2) 64 slices_S128x1024_o64_0_S8x1024 4#32⟩ ::
   ⟨Rect.unit ![2080, 0] S32x1024.size inb_S4096x1024_S32x1024_2080_0, tile (k0_pay34 x1 x2) 64 slices_S128x1024_o64_0_S8x1024 6#32⟩ ::
   ⟨Rect.unit ![2048, 0] S32x1024.size inb_S4096x1024_S32x1024_2048_0, tile (k0_pay35 x1 x2) 64 slices_S128x1024_o64_0_S8x1024 6#32⟩ ::
   ⟨Rect.unit ![2016, 0] S32x1024.size inb_S4096x1024_S32x1024_2016_0, tile (k0_pay34 x1 x2) 56 slices_S128x1024_o56_0_S8x1024 0#32⟩ ::
   ⟨Rect.unit ![1984, 0] S32x1024.size inb_S4096x1024_S32x1024_1984_0, tile (k0_pay35 x1 x2) 56 slices_S128x1024_o56_0_S8x1024 0#32⟩ ::
   ⟨Rect.unit ![1952, 0] S32x1024.size inb_S4096x1024_S32x1024_1952_0, tile (k0_pay34 x1 x2) 56 slices_S128x1024_o56_0_S8x1024 2#32⟩ ::
   ⟨Rect.unit ![1920, 0] S32x1024.size inb_S4096x1024_S32x1024_1920_0, tile (k0_pay35 x1 x2) 56 slices_S128x1024_o56_0_S8x1024 2#32⟩ ::
   ⟨Rect.unit ![1888, 0] S32x1024.size inb_S4096x1024_S32x1024_1888_0, tile (k0_pay34 x1 x2) 56 slices_S128x1024_o56_0_S8x1024 4#32⟩ ::
   ⟨Rect.unit ![1856, 0] S32x1024.size inb_S4096x1024_S32x1024_1856_0, tile (k0_pay35 x1 x2) 56 slices_S128x1024_o56_0_S8x1024 4#32⟩ ::
   ⟨Rect.unit ![1824, 0] S32x1024.size inb_S4096x1024_S32x1024_1824_0, tile (k0_pay34 x1 x2) 56 slices_S128x1024_o56_0_S8x1024 6#32⟩ ::
   ⟨Rect.unit ![1792, 0] S32x1024.size inb_S4096x1024_S32x1024_1792_0, tile (k0_pay35 x1 x2) 56 slices_S128x1024_o56_0_S8x1024 6#32⟩ ::
   ⟨Rect.unit ![1760, 0] S32x1024.size inb_S4096x1024_S32x1024_1760_0, tile (k0_pay34 x1 x2) 48 slices_S128x1024_o48_0_S8x1024 0#32⟩ ::
   ⟨Rect.unit ![1728, 0] S32x1024.size inb_S4096x1024_S32x1024_1728_0, tile (k0_pay35 x1 x2) 48 slices_S128x1024_o48_0_S8x1024 0#32⟩ ::
   ⟨Rect.unit ![1696, 0] S32x1024.size inb_S4096x1024_S32x1024_1696_0, tile (k0_pay34 x1 x2) 48 slices_S128x1024_o48_0_S8x1024 2#32⟩ ::
   ⟨Rect.unit ![1664, 0] S32x1024.size inb_S4096x1024_S32x1024_1664_0, tile (k0_pay35 x1 x2) 48 slices_S128x1024_o48_0_S8x1024 2#32⟩ ::
   ⟨Rect.unit ![1632, 0] S32x1024.size inb_S4096x1024_S32x1024_1632_0, tile (k0_pay34 x1 x2) 48 slices_S128x1024_o48_0_S8x1024 4#32⟩ ::
   ⟨Rect.unit ![1600, 0] S32x1024.size inb_S4096x1024_S32x1024_1600_0, tile (k0_pay35 x1 x2) 48 slices_S128x1024_o48_0_S8x1024 4#32⟩ ::
   ⟨Rect.unit ![1568, 0] S32x1024.size inb_S4096x1024_S32x1024_1568_0, tile (k0_pay34 x1 x2) 48 slices_S128x1024_o48_0_S8x1024 6#32⟩ ::
   ⟨Rect.unit ![1536, 0] S32x1024.size inb_S4096x1024_S32x1024_1536_0, tile (k0_pay35 x1 x2) 48 slices_S128x1024_o48_0_S8x1024 6#32⟩ ::
   ⟨Rect.unit ![1504, 0] S32x1024.size inb_S4096x1024_S32x1024_1504_0, tile (k0_pay34 x1 x2) 40 slices_S128x1024_o40_0_S8x1024 0#32⟩ ::
   ⟨Rect.unit ![1472, 0] S32x1024.size inb_S4096x1024_S32x1024_1472_0, tile (k0_pay35 x1 x2) 40 slices_S128x1024_o40_0_S8x1024 0#32⟩ ::
   ⟨Rect.unit ![1440, 0] S32x1024.size inb_S4096x1024_S32x1024_1440_0, tile (k0_pay34 x1 x2) 40 slices_S128x1024_o40_0_S8x1024 2#32⟩ ::
   ⟨Rect.unit ![1408, 0] S32x1024.size inb_S4096x1024_S32x1024_1408_0, tile (k0_pay35 x1 x2) 40 slices_S128x1024_o40_0_S8x1024 2#32⟩ ::
   ⟨Rect.unit ![1376, 0] S32x1024.size inb_S4096x1024_S32x1024_1376_0, tile (k0_pay34 x1 x2) 40 slices_S128x1024_o40_0_S8x1024 4#32⟩ ::
   ⟨Rect.unit ![1344, 0] S32x1024.size inb_S4096x1024_S32x1024_1344_0, tile (k0_pay35 x1 x2) 40 slices_S128x1024_o40_0_S8x1024 4#32⟩ ::
   ⟨Rect.unit ![1312, 0] S32x1024.size inb_S4096x1024_S32x1024_1312_0, tile (k0_pay34 x1 x2) 40 slices_S128x1024_o40_0_S8x1024 6#32⟩ ::
   ⟨Rect.unit ![1280, 0] S32x1024.size inb_S4096x1024_S32x1024_1280_0, tile (k0_pay35 x1 x2) 40 slices_S128x1024_o40_0_S8x1024 6#32⟩ ::
   ⟨Rect.unit ![1248, 0] S32x1024.size inb_S4096x1024_S32x1024_1248_0, tile (k0_pay34 x1 x2) 32 slices_S128x1024_o32_0_S8x1024 0#32⟩ ::
   ⟨Rect.unit ![1216, 0] S32x1024.size inb_S4096x1024_S32x1024_1216_0, tile (k0_pay35 x1 x2) 32 slices_S128x1024_o32_0_S8x1024 0#32⟩ ::
   ⟨Rect.unit ![1184, 0] S32x1024.size inb_S4096x1024_S32x1024_1184_0, tile (k0_pay34 x1 x2) 32 slices_S128x1024_o32_0_S8x1024 2#32⟩ ::
   ⟨Rect.unit ![1152, 0] S32x1024.size inb_S4096x1024_S32x1024_1152_0, tile (k0_pay35 x1 x2) 32 slices_S128x1024_o32_0_S8x1024 2#32⟩ ::
   ⟨Rect.unit ![1120, 0] S32x1024.size inb_S4096x1024_S32x1024_1120_0, tile (k0_pay34 x1 x2) 32 slices_S128x1024_o32_0_S8x1024 4#32⟩ ::
   ⟨Rect.unit ![1088, 0] S32x1024.size inb_S4096x1024_S32x1024_1088_0, tile (k0_pay35 x1 x2) 32 slices_S128x1024_o32_0_S8x1024 4#32⟩ ::
   ⟨Rect.unit ![1056, 0] S32x1024.size inb_S4096x1024_S32x1024_1056_0, tile (k0_pay34 x1 x2) 32 slices_S128x1024_o32_0_S8x1024 6#32⟩ ::
   ⟨Rect.unit ![1024, 0] S32x1024.size inb_S4096x1024_S32x1024_1024_0, tile (k0_pay35 x1 x2) 32 slices_S128x1024_o32_0_S8x1024 6#32⟩ ::
   ⟨Rect.unit ![992, 0] S32x1024.size inb_S4096x1024_S32x1024_992_0, tile (k0_pay34 x1 x2) 24 slices_S128x1024_o24_0_S8x1024 0#32⟩ ::
   ⟨Rect.unit ![960, 0] S32x1024.size inb_S4096x1024_S32x1024_960_0, tile (k0_pay35 x1 x2) 24 slices_S128x1024_o24_0_S8x1024 0#32⟩ ::
   ⟨Rect.unit ![928, 0] S32x1024.size inb_S4096x1024_S32x1024_928_0, tile (k0_pay34 x1 x2) 24 slices_S128x1024_o24_0_S8x1024 2#32⟩ ::
   ⟨Rect.unit ![896, 0] S32x1024.size inb_S4096x1024_S32x1024_896_0, tile (k0_pay35 x1 x2) 24 slices_S128x1024_o24_0_S8x1024 2#32⟩ ::
   ⟨Rect.unit ![864, 0] S32x1024.size inb_S4096x1024_S32x1024_864_0, tile (k0_pay34 x1 x2) 24 slices_S128x1024_o24_0_S8x1024 4#32⟩ ::
   ⟨Rect.unit ![832, 0] S32x1024.size inb_S4096x1024_S32x1024_832_0, tile (k0_pay35 x1 x2) 24 slices_S128x1024_o24_0_S8x1024 4#32⟩ ::
   ⟨Rect.unit ![800, 0] S32x1024.size inb_S4096x1024_S32x1024_800_0, tile (k0_pay34 x1 x2) 24 slices_S128x1024_o24_0_S8x1024 6#32⟩ ::
   ⟨Rect.unit ![768, 0] S32x1024.size inb_S4096x1024_S32x1024_768_0, tile (k0_pay35 x1 x2) 24 slices_S128x1024_o24_0_S8x1024 6#32⟩ ::
   ⟨Rect.unit ![736, 0] S32x1024.size inb_S4096x1024_S32x1024_736_0, tile (k0_pay34 x1 x2) 16 slices_S128x1024_o16_0_S8x1024 0#32⟩ ::
   ⟨Rect.unit ![704, 0] S32x1024.size inb_S4096x1024_S32x1024_704_0, tile (k0_pay35 x1 x2) 16 slices_S128x1024_o16_0_S8x1024 0#32⟩ ::
   ⟨Rect.unit ![672, 0] S32x1024.size inb_S4096x1024_S32x1024_672_0, tile (k0_pay34 x1 x2) 16 slices_S128x1024_o16_0_S8x1024 2#32⟩ ::
   ⟨Rect.unit ![640, 0] S32x1024.size inb_S4096x1024_S32x1024_640_0, tile (k0_pay35 x1 x2) 16 slices_S128x1024_o16_0_S8x1024 2#32⟩ ::
   ⟨Rect.unit ![608, 0] S32x1024.size inb_S4096x1024_S32x1024_608_0, tile (k0_pay34 x1 x2) 16 slices_S128x1024_o16_0_S8x1024 4#32⟩ ::
   ⟨Rect.unit ![576, 0] S32x1024.size inb_S4096x1024_S32x1024_576_0, tile (k0_pay35 x1 x2) 16 slices_S128x1024_o16_0_S8x1024 4#32⟩ ::
   ⟨Rect.unit ![544, 0] S32x1024.size inb_S4096x1024_S32x1024_544_0, tile (k0_pay34 x1 x2) 16 slices_S128x1024_o16_0_S8x1024 6#32⟩ ::
   ⟨Rect.unit ![512, 0] S32x1024.size inb_S4096x1024_S32x1024_512_0, tile (k0_pay35 x1 x2) 16 slices_S128x1024_o16_0_S8x1024 6#32⟩ ::
   ⟨Rect.unit ![480, 0] S32x1024.size inb_S4096x1024_S32x1024_480_0, tile (k0_pay34 x1 x2) 8 slices_S128x1024_o8_0_S8x1024 0#32⟩ ::
   ⟨Rect.unit ![448, 0] S32x1024.size inb_S4096x1024_S32x1024_448_0, tile (k0_pay35 x1 x2) 8 slices_S128x1024_o8_0_S8x1024 0#32⟩ ::
   ⟨Rect.unit ![416, 0] S32x1024.size inb_S4096x1024_S32x1024_416_0, tile (k0_pay34 x1 x2) 8 slices_S128x1024_o8_0_S8x1024 2#32⟩ ::
   ⟨Rect.unit ![384, 0] S32x1024.size inb_S4096x1024_S32x1024_384_0, tile (k0_pay35 x1 x2) 8 slices_S128x1024_o8_0_S8x1024 2#32⟩ ::
   ⟨Rect.unit ![352, 0] S32x1024.size inb_S4096x1024_S32x1024_352_0, tile (k0_pay34 x1 x2) 8 slices_S128x1024_o8_0_S8x1024 4#32⟩ ::
   ⟨Rect.unit ![320, 0] S32x1024.size inb_S4096x1024_S32x1024_320_0, tile (k0_pay35 x1 x2) 8 slices_S128x1024_o8_0_S8x1024 4#32⟩ ::
   ⟨Rect.unit ![288, 0] S32x1024.size inb_S4096x1024_S32x1024_288_0, tile (k0_pay34 x1 x2) 8 slices_S128x1024_o8_0_S8x1024 6#32⟩ ::
   ⟨Rect.unit ![256, 0] S32x1024.size inb_S4096x1024_S32x1024_256_0, tile (k0_pay35 x1 x2) 8 slices_S128x1024_o8_0_S8x1024 6#32⟩ ::
   ⟨Rect.unit ![224, 0] S32x1024.size inb_S4096x1024_S32x1024_224_0, tile (k0_pay34 x1 x2) 0 slices_S128x1024_o0_0_S8x1024 0#32⟩ ::
   ⟨Rect.unit ![192, 0] S32x1024.size inb_S4096x1024_S32x1024_192_0, tile (k0_pay35 x1 x2) 0 slices_S128x1024_o0_0_S8x1024 0#32⟩ ::
   ⟨Rect.unit ![160, 0] S32x1024.size inb_S4096x1024_S32x1024_160_0, tile (k0_pay34 x1 x2) 0 slices_S128x1024_o0_0_S8x1024 2#32⟩ ::
   ⟨Rect.unit ![128, 0] S32x1024.size inb_S4096x1024_S32x1024_128_0, tile (k0_pay35 x1 x2) 0 slices_S128x1024_o0_0_S8x1024 2#32⟩ ::
   ⟨Rect.unit ![96, 0] S32x1024.size inb_S4096x1024_S32x1024_96_0, tile (k0_pay34 x1 x2) 0 slices_S128x1024_o0_0_S8x1024 4#32⟩ ::
   ⟨Rect.unit ![64, 0] S32x1024.size inb_S4096x1024_S32x1024_64_0, tile (k0_pay35 x1 x2) 0 slices_S128x1024_o0_0_S8x1024 4#32⟩ ::
   ⟨Rect.unit ![32, 0] S32x1024.size inb_S4096x1024_S32x1024_32_0, tile (k0_pay34 x1 x2) 0 slices_S128x1024_o0_0_S8x1024 6#32⟩ ::
   ⟨Rect.unit ![0, 0] S32x1024.size inb_S4096x1024_S32x1024_0_0, tile (k0_pay35 x1 x2) 0 slices_S128x1024_o0_0_S8x1024 6#32⟩ :: []

/-- Each store's payload is the weights' block of its rows. -/
theorem wPieces_eq (x1 x2 : Vec F S1024x128 .i32) :
    ∀ p ∈ wPieces x1 x2, ∀ x : p.1.shape.Idx, p.2 x = wOf (F := F) x1 x2 (p.1.emb x) := by
  unfold wPieces
  refine List.forall_mem_cons.2 ⟨hi_piece x1 x2 15 3 120 4064 0#32 (by decide) (by decide) rfl rfl rfl _ inb_S4096x1024_S32x1024_4064_0, ?_⟩
  refine List.forall_mem_cons.2 ⟨lo_piece x1 x2 15 3 120 4032 0#32 (by decide) (by decide) rfl rfl rfl _ inb_S4096x1024_S32x1024_4032_0, ?_⟩
  refine List.forall_mem_cons.2 ⟨hi_piece x1 x2 15 2 120 4000 2#32 (by decide) (by decide) rfl rfl rfl _ inb_S4096x1024_S32x1024_4000_0, ?_⟩
  refine List.forall_mem_cons.2 ⟨lo_piece x1 x2 15 2 120 3968 2#32 (by decide) (by decide) rfl rfl rfl _ inb_S4096x1024_S32x1024_3968_0, ?_⟩
  refine List.forall_mem_cons.2 ⟨hi_piece x1 x2 15 1 120 3936 4#32 (by decide) (by decide) rfl rfl rfl _ inb_S4096x1024_S32x1024_3936_0, ?_⟩
  refine List.forall_mem_cons.2 ⟨lo_piece x1 x2 15 1 120 3904 4#32 (by decide) (by decide) rfl rfl rfl _ inb_S4096x1024_S32x1024_3904_0, ?_⟩
  refine List.forall_mem_cons.2 ⟨hi_piece x1 x2 15 0 120 3872 6#32 (by decide) (by decide) rfl rfl rfl _ inb_S4096x1024_S32x1024_3872_0, ?_⟩
  refine List.forall_mem_cons.2 ⟨lo_piece x1 x2 15 0 120 3840 6#32 (by decide) (by decide) rfl rfl rfl _ inb_S4096x1024_S32x1024_3840_0, ?_⟩
  refine List.forall_mem_cons.2 ⟨hi_piece x1 x2 14 3 112 3808 0#32 (by decide) (by decide) rfl rfl rfl _ inb_S4096x1024_S32x1024_3808_0, ?_⟩
  refine List.forall_mem_cons.2 ⟨lo_piece x1 x2 14 3 112 3776 0#32 (by decide) (by decide) rfl rfl rfl _ inb_S4096x1024_S32x1024_3776_0, ?_⟩
  refine List.forall_mem_cons.2 ⟨hi_piece x1 x2 14 2 112 3744 2#32 (by decide) (by decide) rfl rfl rfl _ inb_S4096x1024_S32x1024_3744_0, ?_⟩
  refine List.forall_mem_cons.2 ⟨lo_piece x1 x2 14 2 112 3712 2#32 (by decide) (by decide) rfl rfl rfl _ inb_S4096x1024_S32x1024_3712_0, ?_⟩
  refine List.forall_mem_cons.2 ⟨hi_piece x1 x2 14 1 112 3680 4#32 (by decide) (by decide) rfl rfl rfl _ inb_S4096x1024_S32x1024_3680_0, ?_⟩
  refine List.forall_mem_cons.2 ⟨lo_piece x1 x2 14 1 112 3648 4#32 (by decide) (by decide) rfl rfl rfl _ inb_S4096x1024_S32x1024_3648_0, ?_⟩
  refine List.forall_mem_cons.2 ⟨hi_piece x1 x2 14 0 112 3616 6#32 (by decide) (by decide) rfl rfl rfl _ inb_S4096x1024_S32x1024_3616_0, ?_⟩
  refine List.forall_mem_cons.2 ⟨lo_piece x1 x2 14 0 112 3584 6#32 (by decide) (by decide) rfl rfl rfl _ inb_S4096x1024_S32x1024_3584_0, ?_⟩
  refine List.forall_mem_cons.2 ⟨hi_piece x1 x2 13 3 104 3552 0#32 (by decide) (by decide) rfl rfl rfl _ inb_S4096x1024_S32x1024_3552_0, ?_⟩
  refine List.forall_mem_cons.2 ⟨lo_piece x1 x2 13 3 104 3520 0#32 (by decide) (by decide) rfl rfl rfl _ inb_S4096x1024_S32x1024_3520_0, ?_⟩
  refine List.forall_mem_cons.2 ⟨hi_piece x1 x2 13 2 104 3488 2#32 (by decide) (by decide) rfl rfl rfl _ inb_S4096x1024_S32x1024_3488_0, ?_⟩
  refine List.forall_mem_cons.2 ⟨lo_piece x1 x2 13 2 104 3456 2#32 (by decide) (by decide) rfl rfl rfl _ inb_S4096x1024_S32x1024_3456_0, ?_⟩
  refine List.forall_mem_cons.2 ⟨hi_piece x1 x2 13 1 104 3424 4#32 (by decide) (by decide) rfl rfl rfl _ inb_S4096x1024_S32x1024_3424_0, ?_⟩
  refine List.forall_mem_cons.2 ⟨lo_piece x1 x2 13 1 104 3392 4#32 (by decide) (by decide) rfl rfl rfl _ inb_S4096x1024_S32x1024_3392_0, ?_⟩
  refine List.forall_mem_cons.2 ⟨hi_piece x1 x2 13 0 104 3360 6#32 (by decide) (by decide) rfl rfl rfl _ inb_S4096x1024_S32x1024_3360_0, ?_⟩
  refine List.forall_mem_cons.2 ⟨lo_piece x1 x2 13 0 104 3328 6#32 (by decide) (by decide) rfl rfl rfl _ inb_S4096x1024_S32x1024_3328_0, ?_⟩
  refine List.forall_mem_cons.2 ⟨hi_piece x1 x2 12 3 96 3296 0#32 (by decide) (by decide) rfl rfl rfl _ inb_S4096x1024_S32x1024_3296_0, ?_⟩
  refine List.forall_mem_cons.2 ⟨lo_piece x1 x2 12 3 96 3264 0#32 (by decide) (by decide) rfl rfl rfl _ inb_S4096x1024_S32x1024_3264_0, ?_⟩
  refine List.forall_mem_cons.2 ⟨hi_piece x1 x2 12 2 96 3232 2#32 (by decide) (by decide) rfl rfl rfl _ inb_S4096x1024_S32x1024_3232_0, ?_⟩
  refine List.forall_mem_cons.2 ⟨lo_piece x1 x2 12 2 96 3200 2#32 (by decide) (by decide) rfl rfl rfl _ inb_S4096x1024_S32x1024_3200_0, ?_⟩
  refine List.forall_mem_cons.2 ⟨hi_piece x1 x2 12 1 96 3168 4#32 (by decide) (by decide) rfl rfl rfl _ inb_S4096x1024_S32x1024_3168_0, ?_⟩
  refine List.forall_mem_cons.2 ⟨lo_piece x1 x2 12 1 96 3136 4#32 (by decide) (by decide) rfl rfl rfl _ inb_S4096x1024_S32x1024_3136_0, ?_⟩
  refine List.forall_mem_cons.2 ⟨hi_piece x1 x2 12 0 96 3104 6#32 (by decide) (by decide) rfl rfl rfl _ inb_S4096x1024_S32x1024_3104_0, ?_⟩
  refine List.forall_mem_cons.2 ⟨lo_piece x1 x2 12 0 96 3072 6#32 (by decide) (by decide) rfl rfl rfl _ inb_S4096x1024_S32x1024_3072_0, ?_⟩
  refine List.forall_mem_cons.2 ⟨hi_piece x1 x2 11 3 88 3040 0#32 (by decide) (by decide) rfl rfl rfl _ inb_S4096x1024_S32x1024_3040_0, ?_⟩
  refine List.forall_mem_cons.2 ⟨lo_piece x1 x2 11 3 88 3008 0#32 (by decide) (by decide) rfl rfl rfl _ inb_S4096x1024_S32x1024_3008_0, ?_⟩
  refine List.forall_mem_cons.2 ⟨hi_piece x1 x2 11 2 88 2976 2#32 (by decide) (by decide) rfl rfl rfl _ inb_S4096x1024_S32x1024_2976_0, ?_⟩
  refine List.forall_mem_cons.2 ⟨lo_piece x1 x2 11 2 88 2944 2#32 (by decide) (by decide) rfl rfl rfl _ inb_S4096x1024_S32x1024_2944_0, ?_⟩
  refine List.forall_mem_cons.2 ⟨hi_piece x1 x2 11 1 88 2912 4#32 (by decide) (by decide) rfl rfl rfl _ inb_S4096x1024_S32x1024_2912_0, ?_⟩
  refine List.forall_mem_cons.2 ⟨lo_piece x1 x2 11 1 88 2880 4#32 (by decide) (by decide) rfl rfl rfl _ inb_S4096x1024_S32x1024_2880_0, ?_⟩
  refine List.forall_mem_cons.2 ⟨hi_piece x1 x2 11 0 88 2848 6#32 (by decide) (by decide) rfl rfl rfl _ inb_S4096x1024_S32x1024_2848_0, ?_⟩
  refine List.forall_mem_cons.2 ⟨lo_piece x1 x2 11 0 88 2816 6#32 (by decide) (by decide) rfl rfl rfl _ inb_S4096x1024_S32x1024_2816_0, ?_⟩
  refine List.forall_mem_cons.2 ⟨hi_piece x1 x2 10 3 80 2784 0#32 (by decide) (by decide) rfl rfl rfl _ inb_S4096x1024_S32x1024_2784_0, ?_⟩
  refine List.forall_mem_cons.2 ⟨lo_piece x1 x2 10 3 80 2752 0#32 (by decide) (by decide) rfl rfl rfl _ inb_S4096x1024_S32x1024_2752_0, ?_⟩
  refine List.forall_mem_cons.2 ⟨hi_piece x1 x2 10 2 80 2720 2#32 (by decide) (by decide) rfl rfl rfl _ inb_S4096x1024_S32x1024_2720_0, ?_⟩
  refine List.forall_mem_cons.2 ⟨lo_piece x1 x2 10 2 80 2688 2#32 (by decide) (by decide) rfl rfl rfl _ inb_S4096x1024_S32x1024_2688_0, ?_⟩
  refine List.forall_mem_cons.2 ⟨hi_piece x1 x2 10 1 80 2656 4#32 (by decide) (by decide) rfl rfl rfl _ inb_S4096x1024_S32x1024_2656_0, ?_⟩
  refine List.forall_mem_cons.2 ⟨lo_piece x1 x2 10 1 80 2624 4#32 (by decide) (by decide) rfl rfl rfl _ inb_S4096x1024_S32x1024_2624_0, ?_⟩
  refine List.forall_mem_cons.2 ⟨hi_piece x1 x2 10 0 80 2592 6#32 (by decide) (by decide) rfl rfl rfl _ inb_S4096x1024_S32x1024_2592_0, ?_⟩
  refine List.forall_mem_cons.2 ⟨lo_piece x1 x2 10 0 80 2560 6#32 (by decide) (by decide) rfl rfl rfl _ inb_S4096x1024_S32x1024_2560_0, ?_⟩
  refine List.forall_mem_cons.2 ⟨hi_piece x1 x2 9 3 72 2528 0#32 (by decide) (by decide) rfl rfl rfl _ inb_S4096x1024_S32x1024_2528_0, ?_⟩
  refine List.forall_mem_cons.2 ⟨lo_piece x1 x2 9 3 72 2496 0#32 (by decide) (by decide) rfl rfl rfl _ inb_S4096x1024_S32x1024_2496_0, ?_⟩
  refine List.forall_mem_cons.2 ⟨hi_piece x1 x2 9 2 72 2464 2#32 (by decide) (by decide) rfl rfl rfl _ inb_S4096x1024_S32x1024_2464_0, ?_⟩
  refine List.forall_mem_cons.2 ⟨lo_piece x1 x2 9 2 72 2432 2#32 (by decide) (by decide) rfl rfl rfl _ inb_S4096x1024_S32x1024_2432_0, ?_⟩
  refine List.forall_mem_cons.2 ⟨hi_piece x1 x2 9 1 72 2400 4#32 (by decide) (by decide) rfl rfl rfl _ inb_S4096x1024_S32x1024_2400_0, ?_⟩
  refine List.forall_mem_cons.2 ⟨lo_piece x1 x2 9 1 72 2368 4#32 (by decide) (by decide) rfl rfl rfl _ inb_S4096x1024_S32x1024_2368_0, ?_⟩
  refine List.forall_mem_cons.2 ⟨hi_piece x1 x2 9 0 72 2336 6#32 (by decide) (by decide) rfl rfl rfl _ inb_S4096x1024_S32x1024_2336_0, ?_⟩
  refine List.forall_mem_cons.2 ⟨lo_piece x1 x2 9 0 72 2304 6#32 (by decide) (by decide) rfl rfl rfl _ inb_S4096x1024_S32x1024_2304_0, ?_⟩
  refine List.forall_mem_cons.2 ⟨hi_piece x1 x2 8 3 64 2272 0#32 (by decide) (by decide) rfl rfl rfl _ inb_S4096x1024_S32x1024_2272_0, ?_⟩
  refine List.forall_mem_cons.2 ⟨lo_piece x1 x2 8 3 64 2240 0#32 (by decide) (by decide) rfl rfl rfl _ inb_S4096x1024_S32x1024_2240_0, ?_⟩
  refine List.forall_mem_cons.2 ⟨hi_piece x1 x2 8 2 64 2208 2#32 (by decide) (by decide) rfl rfl rfl _ inb_S4096x1024_S32x1024_2208_0, ?_⟩
  refine List.forall_mem_cons.2 ⟨lo_piece x1 x2 8 2 64 2176 2#32 (by decide) (by decide) rfl rfl rfl _ inb_S4096x1024_S32x1024_2176_0, ?_⟩
  refine List.forall_mem_cons.2 ⟨hi_piece x1 x2 8 1 64 2144 4#32 (by decide) (by decide) rfl rfl rfl _ inb_S4096x1024_S32x1024_2144_0, ?_⟩
  refine List.forall_mem_cons.2 ⟨lo_piece x1 x2 8 1 64 2112 4#32 (by decide) (by decide) rfl rfl rfl _ inb_S4096x1024_S32x1024_2112_0, ?_⟩
  refine List.forall_mem_cons.2 ⟨hi_piece x1 x2 8 0 64 2080 6#32 (by decide) (by decide) rfl rfl rfl _ inb_S4096x1024_S32x1024_2080_0, ?_⟩
  refine List.forall_mem_cons.2 ⟨lo_piece x1 x2 8 0 64 2048 6#32 (by decide) (by decide) rfl rfl rfl _ inb_S4096x1024_S32x1024_2048_0, ?_⟩
  refine List.forall_mem_cons.2 ⟨hi_piece x1 x2 7 3 56 2016 0#32 (by decide) (by decide) rfl rfl rfl _ inb_S4096x1024_S32x1024_2016_0, ?_⟩
  refine List.forall_mem_cons.2 ⟨lo_piece x1 x2 7 3 56 1984 0#32 (by decide) (by decide) rfl rfl rfl _ inb_S4096x1024_S32x1024_1984_0, ?_⟩
  refine List.forall_mem_cons.2 ⟨hi_piece x1 x2 7 2 56 1952 2#32 (by decide) (by decide) rfl rfl rfl _ inb_S4096x1024_S32x1024_1952_0, ?_⟩
  refine List.forall_mem_cons.2 ⟨lo_piece x1 x2 7 2 56 1920 2#32 (by decide) (by decide) rfl rfl rfl _ inb_S4096x1024_S32x1024_1920_0, ?_⟩
  refine List.forall_mem_cons.2 ⟨hi_piece x1 x2 7 1 56 1888 4#32 (by decide) (by decide) rfl rfl rfl _ inb_S4096x1024_S32x1024_1888_0, ?_⟩
  refine List.forall_mem_cons.2 ⟨lo_piece x1 x2 7 1 56 1856 4#32 (by decide) (by decide) rfl rfl rfl _ inb_S4096x1024_S32x1024_1856_0, ?_⟩
  refine List.forall_mem_cons.2 ⟨hi_piece x1 x2 7 0 56 1824 6#32 (by decide) (by decide) rfl rfl rfl _ inb_S4096x1024_S32x1024_1824_0, ?_⟩
  refine List.forall_mem_cons.2 ⟨lo_piece x1 x2 7 0 56 1792 6#32 (by decide) (by decide) rfl rfl rfl _ inb_S4096x1024_S32x1024_1792_0, ?_⟩
  refine List.forall_mem_cons.2 ⟨hi_piece x1 x2 6 3 48 1760 0#32 (by decide) (by decide) rfl rfl rfl _ inb_S4096x1024_S32x1024_1760_0, ?_⟩
  refine List.forall_mem_cons.2 ⟨lo_piece x1 x2 6 3 48 1728 0#32 (by decide) (by decide) rfl rfl rfl _ inb_S4096x1024_S32x1024_1728_0, ?_⟩
  refine List.forall_mem_cons.2 ⟨hi_piece x1 x2 6 2 48 1696 2#32 (by decide) (by decide) rfl rfl rfl _ inb_S4096x1024_S32x1024_1696_0, ?_⟩
  refine List.forall_mem_cons.2 ⟨lo_piece x1 x2 6 2 48 1664 2#32 (by decide) (by decide) rfl rfl rfl _ inb_S4096x1024_S32x1024_1664_0, ?_⟩
  refine List.forall_mem_cons.2 ⟨hi_piece x1 x2 6 1 48 1632 4#32 (by decide) (by decide) rfl rfl rfl _ inb_S4096x1024_S32x1024_1632_0, ?_⟩
  refine List.forall_mem_cons.2 ⟨lo_piece x1 x2 6 1 48 1600 4#32 (by decide) (by decide) rfl rfl rfl _ inb_S4096x1024_S32x1024_1600_0, ?_⟩
  refine List.forall_mem_cons.2 ⟨hi_piece x1 x2 6 0 48 1568 6#32 (by decide) (by decide) rfl rfl rfl _ inb_S4096x1024_S32x1024_1568_0, ?_⟩
  refine List.forall_mem_cons.2 ⟨lo_piece x1 x2 6 0 48 1536 6#32 (by decide) (by decide) rfl rfl rfl _ inb_S4096x1024_S32x1024_1536_0, ?_⟩
  refine List.forall_mem_cons.2 ⟨hi_piece x1 x2 5 3 40 1504 0#32 (by decide) (by decide) rfl rfl rfl _ inb_S4096x1024_S32x1024_1504_0, ?_⟩
  refine List.forall_mem_cons.2 ⟨lo_piece x1 x2 5 3 40 1472 0#32 (by decide) (by decide) rfl rfl rfl _ inb_S4096x1024_S32x1024_1472_0, ?_⟩
  refine List.forall_mem_cons.2 ⟨hi_piece x1 x2 5 2 40 1440 2#32 (by decide) (by decide) rfl rfl rfl _ inb_S4096x1024_S32x1024_1440_0, ?_⟩
  refine List.forall_mem_cons.2 ⟨lo_piece x1 x2 5 2 40 1408 2#32 (by decide) (by decide) rfl rfl rfl _ inb_S4096x1024_S32x1024_1408_0, ?_⟩
  refine List.forall_mem_cons.2 ⟨hi_piece x1 x2 5 1 40 1376 4#32 (by decide) (by decide) rfl rfl rfl _ inb_S4096x1024_S32x1024_1376_0, ?_⟩
  refine List.forall_mem_cons.2 ⟨lo_piece x1 x2 5 1 40 1344 4#32 (by decide) (by decide) rfl rfl rfl _ inb_S4096x1024_S32x1024_1344_0, ?_⟩
  refine List.forall_mem_cons.2 ⟨hi_piece x1 x2 5 0 40 1312 6#32 (by decide) (by decide) rfl rfl rfl _ inb_S4096x1024_S32x1024_1312_0, ?_⟩
  refine List.forall_mem_cons.2 ⟨lo_piece x1 x2 5 0 40 1280 6#32 (by decide) (by decide) rfl rfl rfl _ inb_S4096x1024_S32x1024_1280_0, ?_⟩
  refine List.forall_mem_cons.2 ⟨hi_piece x1 x2 4 3 32 1248 0#32 (by decide) (by decide) rfl rfl rfl _ inb_S4096x1024_S32x1024_1248_0, ?_⟩
  refine List.forall_mem_cons.2 ⟨lo_piece x1 x2 4 3 32 1216 0#32 (by decide) (by decide) rfl rfl rfl _ inb_S4096x1024_S32x1024_1216_0, ?_⟩
  refine List.forall_mem_cons.2 ⟨hi_piece x1 x2 4 2 32 1184 2#32 (by decide) (by decide) rfl rfl rfl _ inb_S4096x1024_S32x1024_1184_0, ?_⟩
  refine List.forall_mem_cons.2 ⟨lo_piece x1 x2 4 2 32 1152 2#32 (by decide) (by decide) rfl rfl rfl _ inb_S4096x1024_S32x1024_1152_0, ?_⟩
  refine List.forall_mem_cons.2 ⟨hi_piece x1 x2 4 1 32 1120 4#32 (by decide) (by decide) rfl rfl rfl _ inb_S4096x1024_S32x1024_1120_0, ?_⟩
  refine List.forall_mem_cons.2 ⟨lo_piece x1 x2 4 1 32 1088 4#32 (by decide) (by decide) rfl rfl rfl _ inb_S4096x1024_S32x1024_1088_0, ?_⟩
  refine List.forall_mem_cons.2 ⟨hi_piece x1 x2 4 0 32 1056 6#32 (by decide) (by decide) rfl rfl rfl _ inb_S4096x1024_S32x1024_1056_0, ?_⟩
  refine List.forall_mem_cons.2 ⟨lo_piece x1 x2 4 0 32 1024 6#32 (by decide) (by decide) rfl rfl rfl _ inb_S4096x1024_S32x1024_1024_0, ?_⟩
  refine List.forall_mem_cons.2 ⟨hi_piece x1 x2 3 3 24 992 0#32 (by decide) (by decide) rfl rfl rfl _ inb_S4096x1024_S32x1024_992_0, ?_⟩
  refine List.forall_mem_cons.2 ⟨lo_piece x1 x2 3 3 24 960 0#32 (by decide) (by decide) rfl rfl rfl _ inb_S4096x1024_S32x1024_960_0, ?_⟩
  refine List.forall_mem_cons.2 ⟨hi_piece x1 x2 3 2 24 928 2#32 (by decide) (by decide) rfl rfl rfl _ inb_S4096x1024_S32x1024_928_0, ?_⟩
  refine List.forall_mem_cons.2 ⟨lo_piece x1 x2 3 2 24 896 2#32 (by decide) (by decide) rfl rfl rfl _ inb_S4096x1024_S32x1024_896_0, ?_⟩
  refine List.forall_mem_cons.2 ⟨hi_piece x1 x2 3 1 24 864 4#32 (by decide) (by decide) rfl rfl rfl _ inb_S4096x1024_S32x1024_864_0, ?_⟩
  refine List.forall_mem_cons.2 ⟨lo_piece x1 x2 3 1 24 832 4#32 (by decide) (by decide) rfl rfl rfl _ inb_S4096x1024_S32x1024_832_0, ?_⟩
  refine List.forall_mem_cons.2 ⟨hi_piece x1 x2 3 0 24 800 6#32 (by decide) (by decide) rfl rfl rfl _ inb_S4096x1024_S32x1024_800_0, ?_⟩
  refine List.forall_mem_cons.2 ⟨lo_piece x1 x2 3 0 24 768 6#32 (by decide) (by decide) rfl rfl rfl _ inb_S4096x1024_S32x1024_768_0, ?_⟩
  refine List.forall_mem_cons.2 ⟨hi_piece x1 x2 2 3 16 736 0#32 (by decide) (by decide) rfl rfl rfl _ inb_S4096x1024_S32x1024_736_0, ?_⟩
  refine List.forall_mem_cons.2 ⟨lo_piece x1 x2 2 3 16 704 0#32 (by decide) (by decide) rfl rfl rfl _ inb_S4096x1024_S32x1024_704_0, ?_⟩
  refine List.forall_mem_cons.2 ⟨hi_piece x1 x2 2 2 16 672 2#32 (by decide) (by decide) rfl rfl rfl _ inb_S4096x1024_S32x1024_672_0, ?_⟩
  refine List.forall_mem_cons.2 ⟨lo_piece x1 x2 2 2 16 640 2#32 (by decide) (by decide) rfl rfl rfl _ inb_S4096x1024_S32x1024_640_0, ?_⟩
  refine List.forall_mem_cons.2 ⟨hi_piece x1 x2 2 1 16 608 4#32 (by decide) (by decide) rfl rfl rfl _ inb_S4096x1024_S32x1024_608_0, ?_⟩
  refine List.forall_mem_cons.2 ⟨lo_piece x1 x2 2 1 16 576 4#32 (by decide) (by decide) rfl rfl rfl _ inb_S4096x1024_S32x1024_576_0, ?_⟩
  refine List.forall_mem_cons.2 ⟨hi_piece x1 x2 2 0 16 544 6#32 (by decide) (by decide) rfl rfl rfl _ inb_S4096x1024_S32x1024_544_0, ?_⟩
  refine List.forall_mem_cons.2 ⟨lo_piece x1 x2 2 0 16 512 6#32 (by decide) (by decide) rfl rfl rfl _ inb_S4096x1024_S32x1024_512_0, ?_⟩
  refine List.forall_mem_cons.2 ⟨hi_piece x1 x2 1 3 8 480 0#32 (by decide) (by decide) rfl rfl rfl _ inb_S4096x1024_S32x1024_480_0, ?_⟩
  refine List.forall_mem_cons.2 ⟨lo_piece x1 x2 1 3 8 448 0#32 (by decide) (by decide) rfl rfl rfl _ inb_S4096x1024_S32x1024_448_0, ?_⟩
  refine List.forall_mem_cons.2 ⟨hi_piece x1 x2 1 2 8 416 2#32 (by decide) (by decide) rfl rfl rfl _ inb_S4096x1024_S32x1024_416_0, ?_⟩
  refine List.forall_mem_cons.2 ⟨lo_piece x1 x2 1 2 8 384 2#32 (by decide) (by decide) rfl rfl rfl _ inb_S4096x1024_S32x1024_384_0, ?_⟩
  refine List.forall_mem_cons.2 ⟨hi_piece x1 x2 1 1 8 352 4#32 (by decide) (by decide) rfl rfl rfl _ inb_S4096x1024_S32x1024_352_0, ?_⟩
  refine List.forall_mem_cons.2 ⟨lo_piece x1 x2 1 1 8 320 4#32 (by decide) (by decide) rfl rfl rfl _ inb_S4096x1024_S32x1024_320_0, ?_⟩
  refine List.forall_mem_cons.2 ⟨hi_piece x1 x2 1 0 8 288 6#32 (by decide) (by decide) rfl rfl rfl _ inb_S4096x1024_S32x1024_288_0, ?_⟩
  refine List.forall_mem_cons.2 ⟨lo_piece x1 x2 1 0 8 256 6#32 (by decide) (by decide) rfl rfl rfl _ inb_S4096x1024_S32x1024_256_0, ?_⟩
  refine List.forall_mem_cons.2 ⟨hi_piece x1 x2 0 3 0 224 0#32 (by decide) (by decide) rfl rfl rfl _ inb_S4096x1024_S32x1024_224_0, ?_⟩
  refine List.forall_mem_cons.2 ⟨lo_piece x1 x2 0 3 0 192 0#32 (by decide) (by decide) rfl rfl rfl _ inb_S4096x1024_S32x1024_192_0, ?_⟩
  refine List.forall_mem_cons.2 ⟨hi_piece x1 x2 0 2 0 160 2#32 (by decide) (by decide) rfl rfl rfl _ inb_S4096x1024_S32x1024_160_0, ?_⟩
  refine List.forall_mem_cons.2 ⟨lo_piece x1 x2 0 2 0 128 2#32 (by decide) (by decide) rfl rfl rfl _ inb_S4096x1024_S32x1024_128_0, ?_⟩
  refine List.forall_mem_cons.2 ⟨hi_piece x1 x2 0 1 0 96 4#32 (by decide) (by decide) rfl rfl rfl _ inb_S4096x1024_S32x1024_96_0, ?_⟩
  refine List.forall_mem_cons.2 ⟨lo_piece x1 x2 0 1 0 64 4#32 (by decide) (by decide) rfl rfl rfl _ inb_S4096x1024_S32x1024_64_0, ?_⟩
  refine List.forall_mem_cons.2 ⟨hi_piece x1 x2 0 0 0 32 6#32 (by decide) (by decide) rfl rfl rfl _ inb_S4096x1024_S32x1024_32_0, ?_⟩
  refine List.forall_mem_cons.2 ⟨lo_piece x1 x2 0 0 0 0 6#32 (by decide) (by decide) rfl rfl rfl _ inb_S4096x1024_S32x1024_0_0, ?_⟩
  exact fun p hp => absurd hp List.not_mem_nil

/-- The stores cover the buffer. -/
theorem wPieces_cover (x1 x2 : Vec F S1024x128 .i32) : ∀ y : S4096x1024.Idx, ∃ p ∈ wPieces x1 x2, y ∈ p.1.set :=
  View.cover_of_tiled (wPieces x1 x2) ![32, 1024] (by rfl)

/-- What the stores leave is the expanded weights. -/
theorem wPieces_canon (x1 x2 : Vec F S1024x128 .i32) : View.canon (wPieces x1 x2) = wOf (F := F) x1 x2 :=
  funext fun y => View.canon_apply_of_pieces _ _ (wPieces_eq x1 x2) y (wPieces_cover x1 x2 y)

/-- … and a load of the whole buffer after them reads. -/
theorem wPieces_readCov (x1 x2 : Vec F S1024x128 .i32) (v : View sig .tc .vmem S4096x1024 .fp8e4m3)
    (inb : ∀ a, (![0, 0] : Fin 2 → Nat) a + S4096x1024.size a ≤ S4096x1024.size a) :
    v.readCov (wPieces x1 x2) (Rect.unit ![0, 0] S4096x1024.size inb).toLoadRect = wOf (F := F) x1 x2 := by
  rw [View.readCov_eq_canon_ld _ _ _ (wPieces_cover x1 x2), wPieces_canon]
  exact View.ld_unit_zero (by funext a; fin_cases a <;> rfl) _ _

end Cert.KernelIdeal.Hand
-- ==== Proof.KernelBlock.lean ====
/- What the kernel's body computes at one grid point, as functions of the blocks it reads: the codes, the scale, the
   permuted codes, and the product's block. -/
module

public import proofs.«01_k».proof.Proof.KernelTile

@[expose] public section

noncomputable section

namespace Cert.KernelIdeal.Hand

open Cert.KernelIdeal Cert.KernelIdeal.Gen
open Idealize.ShloMosaic

variable {F : FTy → Type} [FloatOps F]

/-- The codes: each row scaled by a power of two and clipped to ±448, as eight-bit floats. -/
def codesOf (x0 : Vec F S256x4096 .bf16) : Vec F S256x4096 .fp8e4m3 :=
  k0_pay8 (FloatOps.ofBits .f32 1138753536#32) (k0_pay7 (k0_pay2 x0) (k0_pay3 x0) (k0_pay4 x0) 4#32)

/-- The scale of each row. -/
def scaleOf (x0 : Vec F S256x4096 .bf16) : Vec F S256x1 .f32 := k0_pay6 (k0_pay3 x0) (k0_pay4 x0) 4#32

/-- Half of it, kept for the product. -/
def halfOf (x0 : Vec F S256x4096 .bf16) : Vec F S256x1 .f32 := k0_pay9 (scaleOf x0)

/-- The permutation of 256 columns, as a matrix of zeros and ones. -/
def perm : FVec F S256x256 .fp8e4m3 :=
  k0_pay13 (iota .tc S256x256 32 [0] iota_S256x256_d0_w32) (iota .tc S256x256 32 [1] iota_S256x256_d1_w32)
    k0_pay10 8#32 k0_pay11 k0_pay12 0#32

/-- 256 columns of codes, permuted by the product with it. -/
def permBlock (b : Vec F S256x256 .fp8e4m3) : FVec F S256x256 .fp8e4m3 :=
  shapeCast S256x256 (truncf .fp8e4m3 (matmul dot_S256x256_S256x256_S256x256_1_0_0_1_n_n none
    (shapeCast S256x256 b shapeCasts_S256x256_S256x256) (perm (F := F)) (constant S256x256 .f32 0x00000000#32)) bitsLt_fp8e4m3_f32)
    shapeCasts_S256x256_S256x256

/-- The permuted codes: each group of 256 columns permuted by itself. -/
def xqOf (cd : Vec F S256x4096 .fp8e4m3) : Vec F S256x4096 .fp8e4m3 := fun y =>
  permBlock (fun z => cd (ValueIdx.ix2 (z 0 : Fin 256) (⟨256 * ((y 1).val / 256) + (z 1).val, by
      have h1 : (y 1).val < 4096 := (y 1).isLt
      have h2 : (z 1).val < 256 := (z 1).isLt
      omega⟩ : Fin 4096)))
    (ValueIdx.ix2 (y 0 : Fin 256) (⟨(y 1).val % 256, Nat.mod_lt _ (by decide)⟩ : Fin 256))

/-- The product's block. -/
def yOf (x0 : Vec F S256x4096 .bf16) (x1 x2 : Vec F S1024x128 .i32) (x3 : Vec F S1x1024 .bf16) : Vec F S256x1024 .bf16 :=
  k0_pay1 (xqOf (codesOf x0)) (wOf x1 x2) (halfOf x0) x3

/-- One store of permuted codes is its block of columns. -/
theorem xq_piece (cd : Vec F S256x4096 .fp8e4m3) (g o : Nat) (hg : g < 16) (ho : o = 256 * g)
    (inb : ∀ a, (![0, o] : Fin 2 → Nat) a + S256x256.size a ≤ S256x4096.size a) (x : S256x256.Idx) :
    permBlock (fun z => cd ((Rect.unit (s := S256x4096) ![0, o] S256x256.size inb).idx z)) x
      = xqOf cd ((Rect.unit (s := S256x4096) ![0, o] S256x256.size inb).emb x) := by
  subst ho
  have hx1 : (x 1).val < 256 := (x 1).isLt
  have h0 : ((Rect.unit (s := S256x4096) ![0, 256 * g] S256x256.size inb).emb x) 0 = x 0 :=
    Fin.ext (by rw [Rect.emb_apply]; exact (congrArg _ (Nat.one_mul _)).trans (Nat.zero_add _))
  have h1 : (((Rect.unit (s := S256x4096) ![0, 256 * g] S256x256.size inb).emb x) 1).val = 256 * g + (x 1).val := by
    rw [Rect.emb_apply]; exact congrArg _ (Nat.one_mul _)
  unfold xqOf
  have a1 : (256 * g + (x 1).val) / 256 = g := by omega
  have a2 : (256 * g + (x 1).val) % 256 = (x 1).val := by omega
  simp only [h0, h1, a1, a2]
  have hx : x = ValueIdx.ix2 (x 0 : Fin 256) (⟨(x 1).val, hx1⟩ : Fin 256) := ValueIdx.eq_ix2 x
  refine Eq.trans ?_ (congrArg (permBlock _) hx)
  refine congrFun (congrArg permBlock (funext fun z => congrArg cd ?_)) x
  refine Shape.idx_ext₂ ?_ ?_
  · exact (congrArg (0 + ·) (Nat.one_mul (z 0).val)).trans (Nat.zero_add _)
  · exact congrArg (256 * g + ·) (Nat.one_mul (z 1).val)

/-- The stores of the permuted codes, last first: sixteen blocks of 256 columns. -/
def xqPieces (cd : Vec F S256x4096 .fp8e4m3) : List (View.Piece (Elt F) S256x4096 .fp8e4m3) :=
   ⟨Rect.unit ![0, 3840] S256x256.size inb_S256x4096_S256x256_0_3840, permBlock (fun z => cd ((Rect.unit (s := S256x4096) ![0, 3840] S256x256.size inb_S256x4096_S256x256_0_3840).idx z))⟩ ::
   ⟨Rect.unit ![0, 3584] S256x256.size inb_S256x4096_S256x256_0_3584, permBlock (fun z => cd ((Rect.unit (s := S256x4096) ![0, 3584] S256x256.size inb_S256x4096_S256x256_0_3584).idx z))⟩ ::
   ⟨Rect.unit ![0, 3328] S256x256.size inb_S256x4096_S256x256_0_3328, permBlock (fun z => cd ((Rect.unit (s := S256x4096) ![0, 3328] S256x256.size inb_S256x4096_S256x256_0_3328).idx z))⟩ ::
   ⟨Rect.unit ![0, 3072] S256x256.size inb_S256x4096_S256x256_0_3072, permBlock (fun z => cd ((Rect.unit (s := S256x4096) ![0, 3072] S256x256.size inb_S256x4096_S256x256_0_3072).idx z))⟩ ::
   ⟨Rect.unit ![0, 2816] S256x256.size inb_S256x4096_S256x256_0_2816, permBlock (fun z => cd ((Rect.unit (s := S256x4096) ![0, 2816] S256x256.size inb_S256x4096_S256x256_0_2816).idx z))⟩ ::
   ⟨Rect.unit ![0, 2560] S256x256.size inb_S256x4096_S256x256_0_2560, permBlock (fun z => cd ((Rect.unit (s := S256x4096) ![0, 2560] S256x256.size inb_S256x4096_S256x256_0_2560).idx z))⟩ ::
   ⟨Rect.unit ![0, 2304] S256x256.size inb_S256x4096_S256x256_0_2304, permBlock (fun z => cd ((Rect.unit (s := S256x4096) ![0, 2304] S256x256.size inb_S256x4096_S256x256_0_2304).idx z))⟩ ::
   ⟨Rect.unit ![0, 2048] S256x256.size inb_S256x4096_S256x256_0_2048, permBlock (fun z => cd ((Rect.unit (s := S256x4096) ![0, 2048] S256x256.size inb_S256x4096_S256x256_0_2048).idx z))⟩ ::
   ⟨Rect.unit ![0, 1792] S256x256.size inb_S256x4096_S256x256_0_1792, permBlock (fun z => cd ((Rect.unit (s := S256x4096) ![0, 1792] S256x256.size inb_S256x4096_S256x256_0_1792).idx z))⟩ ::
   ⟨Rect.unit ![0, 1536] S256x256.size inb_S256x4096_S256x256_0_1536, permBlock (fun z => cd ((Rect.unit (s := S256x4096) ![0, 1536] S256x256.size inb_S256x4096_S256x256_0_1536).idx z))⟩ ::
   ⟨Rect.unit ![0, 1280] S256x256.size inb_S256x4096_S256x256_0_1280, permBlock (fun z => cd ((Rect.unit (s := S256x4096) ![0, 1280] S256x256.size inb_S256x4096_S256x256_0_1280).idx z))⟩ ::
   ⟨Rect.unit ![0, 1024] S256x256.size inb_S256x4096_S256x256_0_1024, permBlock (fun z => cd ((Rect.unit (s := S256x4096) ![0, 1024] S256x256.size inb_S256x4096_S256x256_0_1024).idx z))⟩ ::
   ⟨Rect.unit ![0, 768] S256x256.size inb_S256x4096_S256x256_0_768, permBlock (fun z => cd ((Rect.unit (s := S256x4096) ![0, 768] S256x256.size inb_S256x4096_S256x256_0_768).idx z))⟩ ::
   ⟨Rect.unit ![0, 512] S256x256.size inb_S256x4096_S256x256_0_512, permBlock (fun z => cd ((Rect.unit (s := S256x4096) ![0, 512] S256x256.size inb_S256x4096_S256x256_0_512).idx z))⟩ ::
   ⟨Rect.unit ![0, 256] S256x256.size inb_S256x4096_S256x256_0_256, permBlock (fun z => cd ((Rect.unit (s := S256x4096) ![0, 256] S256x256.size inb_S256x4096_S256x256_0_256).idx z))⟩ ::
   ⟨Rect.unit ![0, 0] S256x256.size inb_S256x4096_S256x256_0_0, permBlock (fun z => cd ((Rect.unit (s := S256x4096) ![0, 0] S256x256.size inb_S256x4096_S256x256_0_0).idx z))⟩ :: []

theorem xqPieces_eq (cd : Vec F S256x4096 .fp8e4m3) :
    ∀ p ∈ xqPieces cd, ∀ x : p.1.shape.Idx, p.2 x = xqOf cd (p.1.emb x) := by
  unfold xqPieces
  refine List.forall_mem_cons.2 ⟨xq_piece cd 15 3840 (by decide) rfl inb_S256x4096_S256x256_0_3840, ?_⟩
  refine List.forall_mem_cons.2 ⟨xq_piece cd 14 3584 (by decide) rfl inb_S256x4096_S256x256_0_3584, ?_⟩
  refine List.forall_mem_cons.2 ⟨xq_piece cd 13 3328 (by decide) rfl inb_S256x4096_S256x256_0_3328, ?_⟩
  refine List.forall_mem_cons.2 ⟨xq_piece cd 12 3072 (by decide) rfl inb_S256x4096_S256x256_0_3072, ?_⟩
  refine List.forall_mem_cons.2 ⟨xq_piece cd 11 2816 (by decide) rfl inb_S256x4096_S256x256_0_2816, ?_⟩
  refine List.forall_mem_cons.2 ⟨xq_piece cd 10 2560 (by decide) rfl inb_S256x4096_S256x256_0_2560, ?_⟩
  refine List.forall_mem_cons.2 ⟨xq_piece cd 9 2304 (by decide) rfl inb_S256x4096_S256x256_0_2304, ?_⟩
  refine List.forall_mem_cons.2 ⟨xq_piece cd 8 2048 (by decide) rfl inb_S256x4096_S256x256_0_2048, ?_⟩
  refine List.forall_mem_cons.2 ⟨xq_piece cd 7 1792 (by decide) rfl inb_S256x4096_S256x256_0_1792, ?_⟩
  refine List.forall_mem_cons.2 ⟨xq_piece cd 6 1536 (by decide) rfl inb_S256x4096_S256x256_0_1536, ?_⟩
  refine List.forall_mem_cons.2 ⟨xq_piece cd 5 1280 (by decide) rfl inb_S256x4096_S256x256_0_1280, ?_⟩
  refine List.forall_mem_cons.2 ⟨xq_piece cd 4 1024 (by decide) rfl inb_S256x4096_S256x256_0_1024, ?_⟩
  refine List.forall_mem_cons.2 ⟨xq_piece cd 3 768 (by decide) rfl inb_S256x4096_S256x256_0_768, ?_⟩
  refine List.forall_mem_cons.2 ⟨xq_piece cd 2 512 (by decide) rfl inb_S256x4096_S256x256_0_512, ?_⟩
  refine List.forall_mem_cons.2 ⟨xq_piece cd 1 256 (by decide) rfl inb_S256x4096_S256x256_0_256, ?_⟩
  refine List.forall_mem_cons.2 ⟨xq_piece cd 0 0 (by decide) rfl inb_S256x4096_S256x256_0_0, ?_⟩
  exact fun p hp => absurd hp List.not_mem_nil

theorem xqPieces_cover (cd : Vec F S256x4096 .fp8e4m3) : ∀ y : S256x4096.Idx, ∃ p ∈ xqPieces cd, y ∈ p.1.set :=
  View.cover_of_tiled (xqPieces cd) ![256, 256] (by rfl)

theorem xqPieces_canon (cd : Vec F S256x4096 .fp8e4m3) : View.canon (xqPieces cd) = xqOf cd :=
  funext fun y => View.canon_apply_of_pieces _ _ (xqPieces_eq cd) y (xqPieces_cover cd y)

theorem xqPieces_readCov (cd : Vec F S256x4096 .fp8e4m3) (v : View sig .tc .vmem S256x4096 .fp8e4m3)
    (inb : ∀ a, (![0, 0] : Fin 2 → Nat) a + S256x4096.size a ≤ S256x4096.size a) :
    v.readCov (xqPieces cd) (Rect.unit ![0, 0] S256x4096.size inb).toLoadRect = xqOf cd := by
  rw [View.readCov_eq_canon_ld _ _ _ (xqPieces_cover cd), xqPieces_canon]
  exact View.ld_unit_zero (by funext a; fin_cases a <;> rfl) _ _

end Cert.KernelIdeal.Hand
-- ==== Proof.KernelRunVal.lean ====
/- What the two runs of the body leave in the buffers they fill, as the functions of KernelBlock. -/
module

public import proofs.«01_k».proof.Proof.KernelRunB
public import proofs.«01_k».proof.Proof.KernelBlock

@[expose] public section

set_option maxRecDepth 20000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem zeros2 : (![0, 0] : Fin 2 → ℕ) = fun _ => 0 := by funext a; fin_cases a <;> rfl

/-- A load of a block of the codes, after the codes were stored whole. -/
theorem codes_readCov (cd : Vec F S256x4096 .fp8e4m3) (v : View sig .tc .vmem S256x4096 .fp8e4m3)
    (inb : ∀ a, (![0, 0] : Fin 2 → Nat) a + S256x4096.size a ≤ S256x4096.size a) (r : Rect S256x4096) :
    v.readCov [⟨Rect.unit ![0, 0] S256x4096.size inb, cd⟩] r.toLoadRect = fun z => cd (r.idx z) := by
  rw [View.readCov_eq_canon', View.canon_unit_zero zeros2]

/-! ## Later points -/

theorem kernelRunB_canon (c i a1 h1 a2 h2 a3 h3 a4 h4 a5 h5 a6 h6 a7 h7 a8 h8 a9 h9 a10 h10 hc x0 x1 x2 x3 x5 x6 xq hf) :
    View.canon (kernelRunB (F := F) c i a1 h1 a2 h2 a3 h3 a4 h4 a5 h5 a6 h6 a7 h7 a8 h8 a9 h9 a10 h10 hc x0 x1 x2 x3 x5 x6 xq hf).1 = k0_pay1 xq (wOf x1 x2) hf x3 := by
  unfold kernelRunB; dsimp only
  sl_unfold_words
  rw [View.canon_unit_zero zeros2]
  simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]
  exact congrArg (fun w => k0_pay1 xq w hf x3) (wPieces_readCov x1 x2 a9.view _)

theorem kernelRunB_cover (c i a1 h1 a2 h2 a3 h3 a4 h4 a5 h5 a6 h6 a7 h7 a8 h8 a9 h9 a10 h10 hc x0 x1 x2 x3 x5 x6 xq hf) :
    ∀ y, ∃ p ∈ (kernelRunB (F := F) c i a1 h1 a2 h2 a3 h3 a4 h4 a5 h5 a6 h6 a7 h7 a8 h8 a9 h9 a10 h10 hc x0 x1 x2 x3 x5 x6 xq hf).1, y ∈ p.1.set := by
  unfold kernelRunB; dsimp only
  exact View.cover_of_tiled _ ![256, 1024] (by rfl)

/-! ## The first point -/

theorem kernelRunA_canonCodes (c i a1 h1 a2 h2 a3 h3 a4 h4 a5 h5 a6 h6 a7 h7 a8 h8 a9 h9 a10 h10 hc x0 x1 x2 x3) : View.canon (kernelRunA (F := F) c i a1 h1 a2 h2 a3 h3 a4 h4 a5 h5 a6 h6 a7 h7 a8 h8 a9 h9 a10 h10 hc x0 x1 x2 x3).2.1 = codesOf x0 := by
  unfold kernelRunA; dsimp only
  sl_unfold_words
  rw [View.canon_unit_zero zeros2]
  simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]
  rfl

theorem kernelRunA_canonScale (c i a1 h1 a2 h2 a3 h3 a4 h4 a5 h5 a6 h6 a7 h7 a8 h8 a9 h9 a10 h10 hc x0 x1 x2 x3) : View.canon (kernelRunA (F := F) c i a1 h1 a2 h2 a3 h3 a4 h4 a5 h5 a6 h6 a7 h7 a8 h8 a9 h9 a10 h10 hc x0 x1 x2 x3).2.2.1 = scaleOf x0 := by
  unfold kernelRunA; dsimp only
  sl_unfold_words
  rw [View.canon_unit_zero zeros2]
  simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]
  rfl

theorem kernelRunA_canonHalf (c i a1 h1 a2 h2 a3 h3 a4 h4 a5 h5 a6 h6 a7 h7 a8 h8 a9 h9 a10 h10 hc x0 x1 x2 x3) : View.canon (kernelRunA (F := F) c i a1 h1 a2 h2 a3 h3 a4 h4 a5 h5 a6 h6 a7 h7 a8 h8 a9 h9 a10 h10 hc x0 x1 x2 x3).2.2.2.2.1 = halfOf x0 := by
  unfold kernelRunA; dsimp only
  sl_unfold_words
  rw [View.canon_unit_zero zeros2]
  simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]
  rfl

theorem kernelRunA_xq (c i a1 h1 a2 h2 a3 h3 a4 h4 a5 h5 a6 h6 a7 h7 a8 h8 a9 h9 a10 h10 hc x0 x1 x2 x3) : (kernelRunA (F := F) c i a1 h1 a2 h2 a3 h3 a4 h4 a5 h5 a6 h6 a7 h7 a8 h8 a9 h9 a10 h10 hc x0 x1 x2 x3).2.2.2.1 = xqPieces (codesOf x0) := by
  unfold kernelRunA; dsimp only
  sl_unfold_words
  simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]
  have e : ∀ (r : Rect S256x4096) (b b' : r.shape.Idx → Elt F .fp8e4m3), b = b' →
      (⟨r, b⟩ : View.Piece (Elt F) S256x4096 .fp8e4m3) = ⟨r, b'⟩ := by rintro _ _ _ rfl; rfl
  refine congrArg₂ List.cons (e _ _ _ (congrArg permBlock (codes_readCov (codesOf x0) a6.view inb_S256x4096_S256x4096_0_0 (Rect.unit ![0, 3840] S256x256.size inb_S256x4096_S256x256_0_3840)))) ?_
  refine congrArg₂ List.cons (e _ _ _ (congrArg permBlock (codes_readCov (codesOf x0) a6.view inb_S256x4096_S256x4096_0_0 (Rect.unit ![0, 3584] S256x256.size inb_S256x4096_S256x256_0_3584)))) ?_
  refine congrArg₂ List.cons (e _ _ _ (congrArg permBlock (codes_readCov (codesOf x0) a6.view inb_S256x4096_S256x4096_0_0 (Rect.unit ![0, 3328] S256x256.size inb_S256x4096_S256x256_0_3328)))) ?_
  refine congrArg₂ List.cons (e _ _ _ (congrArg permBlock (codes_readCov (codesOf x0) a6.view inb_S256x4096_S256x4096_0_0 (Rect.unit ![0, 3072] S256x256.size inb_S256x4096_S256x256_0_3072)))) ?_
  refine congrArg₂ List.cons (e _ _ _ (congrArg permBlock (codes_readCov (codesOf x0) a6.view inb_S256x4096_S256x4096_0_0 (Rect.unit ![0, 2816] S256x256.size inb_S256x4096_S256x256_0_2816)))) ?_
  refine congrArg₂ List.cons (e _ _ _ (congrArg permBlock (codes_readCov (codesOf x0) a6.view inb_S256x4096_S256x4096_0_0 (Rect.unit ![0, 2560] S256x256.size inb_S256x4096_S256x256_0_2560)))) ?_
  refine congrArg₂ List.cons (e _ _ _ (congrArg permBlock (codes_readCov (codesOf x0) a6.view inb_S256x4096_S256x4096_0_0 (Rect.unit ![0, 2304] S256x256.size inb_S256x4096_S256x256_0_2304)))) ?_
  refine congrArg₂ List.cons (e _ _ _ (congrArg permBlock (codes_readCov (codesOf x0) a6.view inb_S256x4096_S256x4096_0_0 (Rect.unit ![0, 2048] S256x256.size inb_S256x4096_S256x256_0_2048)))) ?_
  refine congrArg₂ List.cons (e _ _ _ (congrArg permBlock (codes_readCov (codesOf x0) a6.view inb_S256x4096_S256x4096_0_0 (Rect.unit ![0, 1792] S256x256.size inb_S256x4096_S256x256_0_1792)))) ?_
  refine congrArg₂ List.cons (e _ _ _ (congrArg permBlock (codes_readCov (codesOf x0) a6.view inb_S256x4096_S256x4096_0_0 (Rect.unit ![0, 1536] S256x256.size inb_S256x4096_S256x256_0_1536)))) ?_
  refine congrArg₂ List.cons (e _ _ _ (congrArg permBlock (codes_readCov (codesOf x0) a6.view inb_S256x4096_S256x4096_0_0 (Rect.unit ![0, 1280] S256x256.size inb_S256x4096_S256x256_0_1280)))) ?_
  refine congrArg₂ List.cons (e _ _ _ (congrArg permBlock (codes_readCov (codesOf x0) a6.view inb_S256x4096_S256x4096_0_0 (Rect.unit ![0, 1024] S256x256.size inb_S256x4096_S256x256_0_1024)))) ?_
  refine congrArg₂ List.cons (e _ _ _ (congrArg permBlock (codes_readCov (codesOf x0) a6.view inb_S256x4096_S256x4096_0_0 (Rect.unit ![0, 768] S256x256.size inb_S256x4096_S256x256_0_768)))) ?_
  refine congrArg₂ List.cons (e _ _ _ (congrArg permBlock (codes_readCov (codesOf x0) a6.view inb_S256x4096_S256x4096_0_0 (Rect.unit ![0, 512] S256x256.size inb_S256x4096_S256x256_0_512)))) ?_
  refine congrArg₂ List.cons (e _ _ _ (congrArg permBlock (codes_readCov (codesOf x0) a6.view inb_S256x4096_S256x4096_0_0 (Rect.unit ![0, 256] S256x256.size inb_S256x4096_S256x256_0_256)))) ?_
  refine congrArg₂ List.cons (e _ _ _ (congrArg permBlock (codes_readCov (codesOf x0) a6.view inb_S256x4096_S256x4096_0_0 (Rect.unit ![0, 0] S256x256.size inb_S256x4096_S256x256_0_0)))) ?_
  rfl

theorem kernelRunA_canonXq (c i a1 h1 a2 h2 a3 h3 a4 h4 a5 h5 a6 h6 a7 h7 a8 h8 a9 h9 a10 h10 hc x0 x1 x2 x3) : View.canon (kernelRunA (F := F) c i a1 h1 a2 h2 a3 h3 a4 h4 a5 h5 a6 h6 a7 h7 a8 h8 a9 h9 a10 h10 hc x0 x1 x2 x3).2.2.2.1 = xqOf (codesOf x0) := by
  rw [kernelRunA_xq, xqPieces_canon]

theorem kernelRunA_canonY (c i a1 h1 a2 h2 a3 h3 a4 h4 a5 h5 a6 h6 a7 h7 a8 h8 a9 h9 a10 h10 hc x0 x1 x2 x3) : View.canon (kernelRunA (F := F) c i a1 h1 a2 h2 a3 h3 a4 h4 a5 h5 a6 h6 a7 h7 a8 h8 a9 h9 a10 h10 hc x0 x1 x2 x3).1 = yOf x0 x1 x2 x3 := by
  unfold kernelRunA; dsimp only
  sl_unfold_words
  rw [View.canon_unit_zero zeros2]
  have e : ∀ (a a' : Vec F S256x4096 .fp8e4m3) (b b' : Vec F S4096x1024 .fp8e4m3) (d d' : Vec F S256x1 .f32)
      (z z' : Vec F S1x1024 .bf16), a = a' → b = b' → d = d' → z = z' → k0_pay1 a b d z = k0_pay1 a' b' d' z' := by
    rintro _ _ _ _ _ _ _ _ rfl rfl rfl rfl; rfl
  refine e _ _ _ _ _ _ _ _ ?_ ?_ ?_ ?_
  · exact (congrArg (fun L => a8.view.readCov L _) (kernelRunA_xq c i a1 h1 a2 h2 a3 h3 a4 h4 a5 h5 a6 h6 a7 h7 a8 h8 a9 h9 a10 h10 hc x0 x1 x2 x3)).trans
      (xqPieces_readCov (codesOf x0) a8.view inb_S256x4096_S256x4096_0_0)
  · simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]
    exact wPieces_readCov x1 x2 a9.view _
  · rw [View.readCov_unit_zero (S := S256x1) _ zeros2]
    simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]
    rfl
  · simp only [View.readAt_eq_ld, Memref.IsWhole.read_unread, View.ld_unit_zero (S := S256x4096) zeros2,
    View.ld_unit_zero (S := S256x1) zeros2, View.ld_unit_zero (S := S1x1024) zeros2, View.ld_unit_zero (S := S1024x128) zeros2]

theorem kernelRunA_coverY (c i a1 h1 a2 h2 a3 h3 a4 h4 a5 h5 a6 h6 a7 h7 a8 h8 a9 h9 a10 h10 hc x0 x1 x2 x3) : ∀ y, ∃ p ∈ (kernelRunA (F := F) c i a1 h1 a2 h2 a3 h3 a4 h4 a5 h5 a6 h6 a7 h7 a8 h8 a9 h9 a10 h10 hc x0 x1 x2 x3).1, y ∈ p.1.set := by
  unfold kernelRunA; dsimp only
  exact View.cover_of_tiled _ ![256, 1024] (by rfl)

theorem kernelRunA_coverCodes (c i a1 h1 a2 h2 a3 h3 a4 h4 a5 h5 a6 h6 a7 h7 a8 h8 a9 h9 a10 h10 hc x0 x1 x2 x3) : ∀ y, ∃ p ∈ (kernelRunA (F := F) c i a1 h1 a2 h2 a3 h3 a4 h4 a5 h5 a6 h6 a7 h7 a8 h8 a9 h9 a10 h10 hc x0 x1 x2 x3).2.1, y ∈ p.1.set := by
  unfold kernelRunA; dsimp only
  exact View.cover_of_tiled _ ![256, 4096] (by rfl)

theorem kernelRunA_coverScale (c i a1 h1 a2 h2 a3 h3 a4 h4 a5 h5 a6 h6 a7 h7 a8 h8 a9 h9 a10 h10 hc x0 x1 x2 x3) : ∀ y, ∃ p ∈ (kernelRunA (F := F) c i a1 h1 a2 h2 a3 h3 a4 h4 a5 h5 a6 h6 a7 h7 a8 h8 a9 h9 a10 h10 hc x0 x1 x2 x3).2.2.1, y ∈ p.1.set := by
  unfold kernelRunA; dsimp only
  exact View.cover_of_tiled _ ![256, 1] (by rfl)

theorem kernelRunA_coverHalf (c i a1 h1 a2 h2 a3 h3 a4 h4 a5 h5 a6 h6 a7 h7 a8 h8 a9 h9 a10 h10 hc x0 x1 x2 x3) : ∀ y, ∃ p ∈ (kernelRunA (F := F) c i a1 h1 a2 h2 a3 h3 a4 h4 a5 h5 a6 h6 a7 h7 a8 h8 a9 h9 a10 h10 hc x0 x1 x2 x3).2.2.2.2.1, y ∈ p.1.set := by
  unfold kernelRunA; dsimp only
  exact View.cover_of_tiled _ ![256, 1] (by rfl)

theorem kernelRunA_coverXq (c i a1 h1 a2 h2 a3 h3 a4 h4 a5 h5 a6 h6 a7 h7 a8 h8 a9 h9 a10 h10 hc x0 x1 x2 x3) : ∀ y, ∃ p ∈ (kernelRunA (F := F) c i a1 h1 a2 h2 a3 h3 a4 h4 a5 h5 a6 h6 a7 h7 a8 h8 a9 h9 a10 h10 hc x0 x1 x2 x3).2.2.2.1, y ∈ p.1.set := by
  rw [kernelRunA_xq]; exact xqPieces_cover _

end Cert.KernelIdeal.Hand
-- ==== Proof.KernelValue.lean ====
/- The kernel's run with the values it leaves: at the first point it fills the codes, the scale and the scratch
   buffers, at every point one block of the product; the scratch buffers carry the permuted codes and the halved scale
   from the first point to the last. -/
module

public import proofs.«01_k».proof.Proof.KernelRunVal
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point of the grid. -/
def t0 : Fin cfg0.N := ⟨0, lt_of_lt_of_eq (by decide : 0 < 14) (show cfg0.N = 14 from N_0).symm⟩

/-- The activations' window is the whole array at every point. -/
theorem iblk0_const (c : Dev nD) (t : Fin cfg0.N) : iblk m c 0 t = iblk m c 0 t0 := rfl

/-- The codes and the scale of the activations, -/
def codesV (c : Dev nD) : Vec F S256x4096 .fp8e4m3 := codesOf (iblk m c 0 t0)
def scaleV (c : Dev nD) : Vec F S256x1 .f32 := scaleOf (iblk m c 0 t0)
/-- and the product's block at a point. -/
def yV (c : Dev nD) (t : Fin cfg0.N) : Vec F S256x1024 .bf16 :=
  yOf (iblk m c 0 t0) (iblk m c 1 t) (iblk m c 2 t) (iblk m c 3 t)

/-- What holds between points: before the first the scratch buffers hold anything, afterwards the permuted codes and
    the halved scale (and anything in the weights'). -/
def PhiAt (c : Dev nD) (n : ℕ) : sProp 𝕄 :=
  if n = 0 then Pipeline.ΦA spec0 c
  else iprop(iprop(owns (c : Thread nD τ) scM0_0 fullShare (xqOf (codesV m c)) ∗ (∃ d, owns (c : Thread nD τ) scM0_1 fullShare d)
    ∗ owns (c : Thread nD τ) scM0_2 fullShare (halfOf (iblk m c 0 t0))) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yV m c t
    | ⟨5, _⟩ => codesV m c
    | ⟨6, _⟩ => scaleV m c
  Φ t := PhiAt m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yV m c t := by dsimp only [dats]
theorem after0_5 (c : Dev nD) (t : Fin cfg0.N) : (dats m 0 c).after 5 t = codesV m c := by dsimp only [dats]
theorem after0_6 (c : Dev nD) (t : Fin cfg0.N) : (dats m 0 c).after 6 t = scaleV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The outputs stored at the first point only -/

/-- An uncut window's buffer is left at what the body left in all of it. -/
theorem kept_of_whole {c : Dev nD} (dat : Dat τ (Elt F) Unit ℕ (UR sig nD τ) ℕ cfg0 c) (w : Fin cfg0.W) (t : Fin cfg0.N)
    (h : ∀ a, (cfg0.win w).clip (cfg0.grid.coords t) a = none) (d) : dat.kept w t d = dat.after w t := by
  funext j
  have hm : (cfg0.win w).moved (cfg0.grid.coords t) j = true :=
    ((cfg0.win w).moved_iff _ j).mpr fun a => by have := (j a).isLt; unfold Window.xsize; rw [h a]; exact this
  unfold Dat.kept Window.fill
  rw [dif_pos hm]

/-- A window stored at the first point and idle after it, uncut, written back last: after the first point its buffer
    holds what the first point left. -/
theorem before_idle {c : Dev nD} (dat : Dat τ (Elt F) Unit ℕ (UR sig nD τ) ℕ cfg0 c) (w : Fin cfg0.W)
    (hfe : ∀ t, (cfg0.win w).fetch t = false) (hfl : ∀ t : Fin cfg0.N, t.val < 13 → (cfg0.win w).flush t = false)
    (hcl : ∀ t a, (cfg0.win w).clip (cfg0.grid.coords t) a = none)
    (h0 : cfg0.idle w (cfg0.grid.coords t0) = false) (hi : ∀ t : Fin cfg0.N, t.val ≠ 0 → cfg0.idle w (cfg0.grid.coords t) = true) :
    ∀ (n : ℕ) (t : Fin cfg0.N), t.val = n + 1 → ∀ d, dat.before w t d = dat.after w t0 := by
  intro n
  induction n with
  | zero =>
    intro t ht d
    have e : (⟨t.val - 1, Nat.lt_of_le_of_lt (Nat.sub_le _ _) t.isLt⟩ : Fin cfg0.N) = t0 := Fin.ext (by show t.val - 1 = 0; omega)
    rw [dat.before_of_pos w t (by omega) (hfe t), e, hfl t0 (by decide), if_neg Bool.false_ne_true]
    unfold Dat.left
    rw [h0]
    exact kept_of_whole dat w t0 (hcl t0) d
  | succ n ih =>
    intro t ht d
    have hN : t.val < 14 := lt_of_lt_of_eq t.isLt (show cfg0.N = 14 from N_0)
    have hp : (⟨t.val - 1, Nat.lt_of_le_of_lt (Nat.sub_le _ _) t.isLt⟩ : Fin cfg0.N).val = n + 1 := by show t.val - 1 = n + 1; omega
    rw [dat.before_of_pos w t (by omega) (hfe t), hfl _ (by omega), if_neg Bool.false_ne_true]
    unfold Dat.left
    rw [hi _ (by omega)]
    exact ih _ hp d

theorem idle5_first (t : Fin cfg0.N) (h : t.val % 14 = 0) : cfg0.idle 5 (cfg0.grid.coords t) = false := by
  show (!(k0_cond1 (grid0.coords t) == 1#1)) = false
  rw [(hcond0_0 t).mpr h]; rfl
theorem idle5_later (t : Fin cfg0.N) (h : ¬ t.val % 14 = 0) : cfg0.idle 5 (cfg0.grid.coords t) = true := by
  show (!(k0_cond1 (grid0.coords t) == 1#1)) = true
  have : ¬ k0_cond1 (grid0.coords t) = 1#1 := fun e => h ((hcond0_0 t).mp e)
  rw [beq_false_of_ne this]; rfl
theorem idle6_first (t : Fin cfg0.N) (h : t.val % 14 = 0) : cfg0.idle 6 (cfg0.grid.coords t) = false := idle5_first t h
theorem idle6_later (t : Fin cfg0.N) (h : ¬ t.val % 14 = 0) : cfg0.idle 6 (cfg0.grid.coords t) = true := idle5_later t h

theorem ptN (t : Fin cfg0.N) : t.val < 14 := lt_of_lt_of_eq t.isLt (show cfg0.N = 14 from N_0)

theorem before0_5 (c : Dev nD) (t : Fin cfg0.N) (h : ¬ t.val % 14 = 0) (d) : (dats m 0 c).before 5 t d = codesV m c :=
  (before_idle (dats m 0 c) 5 (fun _ => rfl) (fun t ht => Bool.eq_false_iff.mpr fun e => by have := (flush0_5 t).mp e; omega)
    (fun _ _ => rfl) (idle5_first _ rfl) (fun t ht => idle5_later t (by have := ptN t; omega)) (t.val - 1) t (by omega) d).trans (after0_5 m c t0)
theorem before0_6 (c : Dev nD) (t : Fin cfg0.N) (h : ¬ t.val % 14 = 0) (d) : (dats m 0 c).before 6 t d = scaleV m c :=
  (before_idle (dats m 0 c) 6 (fun _ => rfl) (fun t ht => Bool.eq_false_iff.mpr fun e => by have := (flush0_6 t).mp e; omega)
    (fun _ _ => rfl) (idle6_first _ rfl) (fun t ht => idle6_later t (by have := ptN t; omega)) (t.val - 1) t (by omega) d).trans (after0_6 m c t0)

/-- Holding the codes is what the obligation asks of their window at every point. -/
theorem leaves5 (c : Dev nD) (t : Fin cfg0.N) :
    owns (c : Thread nD τ) (ms0_5 t) fullShare (codesV m c) ⊢ ((dats m 0 c).leavesExact 5 t : sProp 𝕄) := by
  unfold Dat.leavesExact
  by_cases h : t.val % 14 = 0
  · rw [idle5_first t h, after0_5]
  · rw [idle5_later t h]
    cases (cfg0.win 5).flush t
    · simp only [before0_5 m c t h]
      iintro H; iexists (codesV m c); iexact H
    · rw [after0_5]
/-- … and so is the scale of its own. -/
theorem leaves6 (c : Dev nD) (t : Fin cfg0.N) :
    owns (c : Thread nD τ) (ms0_6 t) fullShare (scaleV m c) ⊢ ((dats m 0 c).leavesExact 6 t : sProp 𝕄) := by
  unfold Dat.leavesExact
  by_cases h : t.val % 14 = 0
  · rw [idle6_first t h, after0_6]
  · rw [idle6_later t h]
    cases (cfg0.win 6).flush t
    · simp only [before0_6 m c t h]
      iintro H; iexists (scaleV m c); iexact H
    · rw [after0_6]

/-- A buffer overwritten by covering pieces is held at their canon. -/
theorem owns_of_writes (c : Dev nD) {S : Shape} {e : EltTy} (M : Memref sig .tc .vmem S e) (L : List (View.Piece (Elt F) S e))
    (X : S.Idx → Elt F e) (hc : ∀ y, ∃ p ∈ L, y ∈ p.1.set) (hX : View.canon L = X) :
    (iprop(∃ f, M.view.loc (c : Thread nD τ) ↦[M.view.set]{fullShare} M.view.writes (Elt F) f L) : sProp 𝕄)
      ⊢ owns (c : Thread nD τ) M fullShare X := by
  subst hX
  unfold owns
  iintro ⟨%f, H⟩
  iexists _; isplitr
  · ipureintro; exact View.read_writes_eq_canon M.view f L hc
  iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point: the inputs' memrefs hold their blocks; at the first point the run that fills everything
    applies, at a later one the run that finds the codes, the scale and the scratch buffers as the first left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = PhiAt m c t.val from rfl, show (dats m 0 c).Φ t.succ = PhiAt m c (t.val + 1) from rfl]
  have hN : t.val < 14 := ptN t
  rw [show PhiAt m c (t.val + 1) = _ from if_neg (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rfl, after0_4]
  rw [iblk0_const m c t]
  by_cases h0 : t.val % 14 = 0
  · rw [show PhiAt m c t.val = _ from if_pos (by omega), PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ _ _ _ _ _ _ ((hcond0_0 t).mpr h0) (iblk m c 0 t0) (iblk m c 1 t) (iblk m c 2 t) (iblk m c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iapply (owns_of_writes c _ _ _ (kernelRunA_coverXq c _ _ _ _ _ _ _ _ _ _ _ _ _ _ _ _ _ _ _ _ _ _ _ _ _ _) (kernelRunA_canonXq c _ _ _ _ _ _ _ _ _ _ _ _ _ _ _ _ _ _ _ _ _ _ _ _ _ _)); iexact HS0
        isplitl [HS1]
        · iexact HS1
        iapply (owns_of_writes c _ _ _ (kernelRunA_coverHalf c _ _ _ _ _ _ _ _ _ _ _ _ _ _ _ _ _ _ _ _ _ _ _ _ _ _) (kernelRunA_canonHalf c _ _ _ _ _ _ _ _ _ _ _ _ _ _ _ _ _ _ _ _ _ _ _ _ _ _)); iexact HS2
      iexact Hg
    isplitl [Ho]; · iexact Ho
    isplitl [H0]; · iexact H0
    isplitl [H1]; · iexact H1
    isplitl [H2]; · iexact H2
    isplitl [H3]; · iexact H3
    isplitl [H4]; · iapply (owns_of_writes c _ _ _ (kernelRunA_coverY c _ _ _ _ _ _ _ _ _ _ _ _ _ _ _ _ _ _ _ _ _ _ _ _ _ _) (kernelRunA_canonY c _ _ _ _ _ _ _ _ _ _ _ _ _ _ _ _ _ _ _ _ _ _ _ _ _ _)); iexact H4
    isplitl [H5]; · iapply (leaves5 m c t); iapply (owns_of_writes c _ _ _ (kernelRunA_coverCodes c _ _ _ _ _ _ _ _ _ _ _ _ _ _ _ _ _ _ _ _ _ _ _ _ _ _) (kernelRunA_canonCodes c _ _ _ _ _ _ _ _ _ _ _ _ _ _ _ _ _ _ _ _ _ _ _ _ _ _)); iexact H5
    iapply (leaves6 m c t); iapply (owns_of_writes c _ _ _ (kernelRunA_coverScale c _ _ _ _ _ _ _ _ _ _ _ _ _ _ _ _ _ _ _ _ _ _ _ _ _ _) (kernelRunA_canonScale c _ _ _ _ _ _ _ _ _ _ _ _ _ _ _ _ _ _ _ _ _ _ _ _ _ _)); iexact H6
  · rw [show PhiAt m c t.val = _ from if_neg (by omega)]
    simp only [before0_5 m c t h0, before0_6 m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ _ _ _ _ _ _ (fun h => h0 ((hcond0_0 t).mp h)) (iblk m c 0 t0) (iblk m c 1 t) (iblk m c 2 t) (iblk m c 3 t) (codesV m c) (scaleV m c) (xqOf (codesV m c)) (halfOf (iblk m c 0 t0))).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]
    · iapply (owns_of_writes c _ _ _ (kernelRunB_cover c _ _ _ _ _ _ _ _ _ _ _ _ _ _ _ _ _ _ _ _ _ _ _ _ _ _ _ _ _ _) (kernelRunB_canon c _ _ _ _ _ _ _ _ _ _ _ _ _ _ _ _ _ _ _ _ _ _ _ _ _ _ _ _ _ _)); iexact H4
    isplitl [H5]; · iapply (leaves5 m c t); iexact H5
    iapply (leaves6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array of the pipeline ends as the proof data's closed form, every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl)
    (hout := fun c => by
      show PhiAt m c 14 ⊢ Pipeline.ΦA spec0 c
      rw [show PhiAt m c 14 = _ from if_neg (by decide), PhiA0_eq]
      iintro ⟨⟨HS0, HS1, HS2⟩, Hg⟩
      isplitl [HS0 HS1 HS2]
      · isplitl [HS0]
        · iexists _; iexact HS0
        isplitl [HS1]
        · iexact HS1
        iexists _; iexact HS2
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand
-- ==== Proof.KernelFinal.lean ====
/- The input blocks of the kernel's run at coordinates of the arguments, and its result arrays from what each point
   leaves. -/
module

public import proofs.«01_k».proof.Proof.KernelValue
public import Idealize.ShloMosaic.Lib.Pipeline.Value
public import Idealize.ShloMosaic.Lib.Pipeline.ValueKit
public import Idealize.ShloMosaic.Lib.StableHlo.Run

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem V_main_v0 (c : Dev nD) : V m c main_v0
    = shapeCast S256x4096 (m ((c : Thread nD τ).loc main_arg0)) shapeCasts_S1x256x4096_S256x4096 := by
  unfold V
  after_results
  rfl

theorem V_main_v1 (c : Dev nD) : V m c main_v1
    = shapeCast S1x14336 (m ((c : Thread nD τ).loc main_arg3)) shapeCasts_S14336_S1x14336 := by
  unfold V
  after_results
  rfl

/-- The one block of the activations is the whole array. -/
theorem iblk0_eq (c : Dev nD) (t : Fin cfg0.N) : iblk m c 0 t
    = shapeCast S256x4096 (m ((c : Thread nD τ).loc main_arg0)) shapeCasts_S1x256x4096_S256x4096 := by
  have e : ∀ t : Fin cfg0.N, win0_0.index t = ![0, 0] := (by decide +kernel : ∀ t : Fin grid0.N, win0_0.index t = ![0, 0])
  rw [← V_main_v0 m c]
  funext y
  blk_simp [iblk]
  congr 1
  blk_ext [e]

/-- The row of the full array that row `n` of block `t` is. -/
def rowAt (t : Fin cfg0.N) (n : Fin 1024) : Fin 14336 := ⟨t.val * 1024 + n.val, by have := ptN t; omega⟩

theorem iblk1_apply (c : Dev nD) (t : Fin cfg0.N) (n : Fin 1024) (i : Fin 128) :
    iblk m c 1 t (ValueIdx.ix2 n i) = m ((c : Thread nD τ).loc main_arg1) (ValueIdx.ix2 (rowAt t n) i) := by
  have e : ∀ t : Fin cfg0.N, win0_1.index t = ![t.val, 0] := (by decide +kernel : ∀ t : Fin grid0.N, win0_1.index t = ![t.val, 0])
  rw [← V_main_arg1 m c]
  blk_simp [iblk]
  congr 1
  blk_ext [e, rowAt]

theorem iblk2_apply (c : Dev nD) (t : Fin cfg0.N) (n : Fin 1024) (i : Fin 128) :
    iblk m c 2 t (ValueIdx.ix2 n i) = m ((c : Thread nD τ).loc main_arg2) (ValueIdx.ix2 (rowAt t n) i) := by
  have e : ∀ t : Fin cfg0.N, win0_2.index t = ![t.val, 0] := (by decide +kernel : ∀ t : Fin grid0.N, win0_2.index t = ![t.val, 0])
  rw [← V_main_arg2 m c]
  blk_simp [iblk]
  congr 1
  blk_ext [e, rowAt]

theorem iblk3_apply (c : Dev nD) (t : Fin cfg0.N) (n : Fin 1024) :
    iblk m c 3 t (ValueIdx.ix2 0 n) = shapeCast S1x14336 (m ((c : Thread nD τ).loc main_arg3)) shapeCasts_S14336_S1x14336 (ValueIdx.ix2 0 (rowAt t n)) := by
  have e : ∀ t : Fin cfg0.N, win0_3.index t = ![0, t.val] := (by decide +kernel : ∀ t : Fin grid0.N, win0_3.index t = ![0, t.val])
  rw [← V_main_v1 m c]
  blk_simp [iblk]
  congr 1
  blk_ext [e, rowAt]

/-- The product array is `G` when every point's block is `G`'s. -/
theorem final4 (c : Dev nD) (G : FVec F S256x14336 .bf16)
    (hG : ∀ (t : Fin cfg0.N) (r : Fin 256) (n : Fin 1024), yV m c t (ValueIdx.ix2 r n) = G (ValueIdx.ix2 r (rowAt t n))) :
    (dats m 0 c).arrAt 4 cfg0.N = G := by
  have e : ∀ t : Fin cfg0.N, win0_4.index t = ![0, t.val] := (by decide +kernel : ∀ t : Fin grid0.N, win0_4.index t = ![0, t.val])
  refine (dats m 0 c).arrAt_eq_of_covers 4 _ (by decide +kernel) fun t hf y => ?_
  blk_simp
  rw [after0_4]
  refine ((congrArg (yV m c t) (ValueIdx.eq_ix2 y)).trans (hG t (y 0) (y 1))).trans ?_
  congr 1
  blk_ext [e, rowAt]

/-- The codes array. -/
theorem final5 (c : Dev nD) : (dats m 0 c).arrAt 5 cfg0.N = codesV m c := by
  have e : ∀ t : Fin cfg0.N, win0_5.index t = ![0, 0] := (by decide +kernel : ∀ t : Fin grid0.N, win0_5.index t = ![0, 0])
  refine (dats m 0 c).arrAt_eq_of_covers 5 _ (by decide +kernel) fun t hf y => ?_
  blk_simp
  rw [after0_5]
  congr 1
  blk_ext [e]

/-- The scales array. -/
theorem final6 (c : Dev nD) : (dats m 0 c).arrAt 6 cfg0.N = scaleV m c := by
  have e : ∀ t : Fin cfg0.N, win0_6.index t = ![0, 0] := (by decide +kernel : ∀ t : Fin grid0.N, win0_6.index t = ![0, 0])
  refine (dats m 0 c).arrAt_eq_of_covers 6 _ (by decide +kernel) fun t hf y => ?_
  blk_simp
  rw [after0_6]
  congr 1
  blk_ext [e]

/-- The run: the three result arrays named, the arguments as launched. -/
theorem run : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = codesV m c
      ∧ r.2.mem ((c : Thread nD τ).loc main_v2_2) = scaleV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, ((h c).1 5).trans (final5 m c), ((h c).1 6).trans (final6 m c),
      ((h c).2 main_arg0 (Pipeline.mem_restRefs_of main_arg0 (by decide) (by decide))).trans (V_main_arg0 m c),
      ((h c).1 1).trans ((dats m 0 c).arrAt_in 1 rfl _ |>.trans ((A_eq m c 1).trans (V_main_arg1 m c))),
      ((h c).1 2).trans ((dats m 0 c).arrAt_in 2 rfl _ |>.trans ((A_eq m c 2).trans (V_main_arg2 m c))),
      ((h c).2 main_arg3 (Pipeline.mem_restRefs_of main_arg3 (by decide) (by decide))).trans (V_main_arg3 m c)⟩)
    (run_main m ρ)

end Cert.KernelIdeal.Hand

end
-- ==== Proof.RefFinal.lean ====
/- The three arrays the reference leaves, as functions of what its one block reads. -/
module

public import proofs.«01_k».proof.Proof.Gen.ReferenceIdeal.Frame
public import Idealize.ShloMosaic.Lib.Pipeline.Value
public import Idealize.ShloMosaic.Lib.Pipeline.ValueKit

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The reference's one point. -/
def t0 : Fin cfg0.N := ⟨0, by decide⟩

/-- The one block of the activations is the whole array. -/
theorem iblk0_eq (c : Dev nD) (t : Fin cfg0.N) : iblk m c 0 t = V m c main_v22 := by
  have e : ∀ t : Fin cfg0.N, win0_0.index t = ![0, 0] := (by decide +kernel : ∀ t : Fin grid0.N, win0_0.index t = ![0, 0])
  funext y
  blk_simp [iblk]
  congr 1
  blk_ext [e]

theorem iblk1_eq (c : Dev nD) (t : Fin cfg0.N) : iblk m c 1 t = V m c main_v21 := by
  have e : ∀ t : Fin cfg0.N, win0_1.index t = ![0, 0] := (by decide +kernel : ∀ t : Fin grid0.N, win0_1.index t = ![0, 0])
  funext y
  blk_simp [iblk]
  congr 1
  blk_ext [e]

theorem iblk2_eq (c : Dev nD) (t : Fin cfg0.N) : iblk m c 2 t = V m c main_v23 := by
  have e : ∀ t : Fin cfg0.N, win0_2.index t = ![0, 0] := (by decide +kernel : ∀ t : Fin grid0.N, win0_2.index t = ![0, 0])
  funext y
  blk_simp [iblk]
  congr 1
  blk_ext [e]

/-- The product. -/
theorem final3 (c : Dev nD) : (dats m 0 c).arrAt 3 cfg0.N
    = k0_pay1 (k0_pay6 (V m c main_v22) (V m c main_v21)) (V m c main_v23) := by
  have e : ∀ t : Fin cfg0.N, win0_3.index t = ![0, 0] := (by decide +kernel : ∀ t : Fin grid0.N, win0_3.index t = ![0, 0])
  refine (dats m 0 c).arrAt_eq_of_covers 3 _ (by decide +kernel) fun t hf y => ?_
  blk_simp
  rw [after0_3, iblk0_eq, iblk1_eq, iblk2_eq]
  frame_out
  congr 1
  blk_ext [e]

/-- The codes. -/
theorem final4 (c : Dev nD) : (dats m 0 c).arrAt 4 cfg0.N = k0_pay5 (V m c main_v22) := by
  have e : ∀ t : Fin cfg0.N, win0_4.index t = ![0, 0] := (by decide +kernel : ∀ t : Fin grid0.N, win0_4.index t = ![0, 0])
  refine (dats m 0 c).arrAt_eq_of_covers 4 _ (by decide +kernel) fun t hf y => ?_
  blk_simp
  rw [after0_4, iblk0_eq, iblk1_eq, iblk2_eq]
  frame_out
  congr 1
  blk_ext [e]

/-- The scales. -/
theorem final5 (c : Dev nD) : (dats m 0 c).arrAt 5 cfg0.N = k0_pay4 (V m c main_v22) := by
  have e : ∀ t : Fin cfg0.N, win0_5.index t = ![0, 0] := (by decide +kernel : ∀ t : Fin grid0.N, win0_5.index t = ![0, 0])
  refine (dats m 0 c).arrAt_eq_of_covers 5 _ (by decide +kernel) fun t hf y => ?_
  blk_simp
  rw [after0_5, iblk0_eq, iblk1_eq, iblk2_eq]
  frame_out
  congr 1
  blk_ext [e]

/-- The run: the three result arrays named, the arguments as launched. -/
theorem run : θ_run defs (onTc (τ := τ) (main (F := F))) ⟨m, fun _ => 0, ρ⟩ fun r => ∀ c : Dev nD,
      r.2.mem ((c : Thread nD τ).loc main_v24_0) = k0_pay1 (k0_pay6 (V m c main_v22) (V m c main_v21)) (V m c main_v23)
      ∧ r.2.mem ((c : Thread nD τ).loc main_v24_1) = k0_pay5 (V m c main_v22)
      ∧ r.2.mem ((c : Thread nD τ).loc main_v24_2) = k0_pay4 (V m c main_v22)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.ReferenceIdeal.Hand

end
-- ==== Proof.Perm.lean ====
/- The permutation of columns at the exact instance. The product with the matrix of zeros and ones moves column
   `8 (q mod 32) + q / 32` of a group of 256 to column `q`. -/
module

public import proofs.«01_k».proof.Proof.KernelBlock
public import Idealize.ShloMosaic.Lib.MatmulPlain
public import Idealize.ShloMosaic.PureOps.Ideal
public import Idealize.ShloMosaic.PureOps.Ideal.Laws

@[expose] public section

noncomputable section

namespace Cert.Quant

open Idealize.ShloMosaic Idealize.ShloMosaic.ValueIdx
open Cert.KernelIdeal (S256x4096 S256x1 S256x256)
open Cert.KernelIdeal.Gen Cert.KernelIdeal.Hand

/-- The destination the matrix gives a row: 32 times the remainder by 8, plus the quotient, in the words of the program. -/
def permWord (a : BitVec 32) : BitVec 32 :=
  let e : BitVec 32 := Scalar.select (Scalar.cmpi .eq 8#32 0#32) 1#32 8#32
  let r : BitVec 32 := IntOp.remsi .vector a e
  let p : BitVec 1 := IntOp.andi (IntOp.xori (IntOp.cmpi .slt r 0#32) (Scalar.cmpi .slt e 0#32)) (IntOp.cmpi .ne r 0#32)
  let hi : BitVec 32 := IntOp.muli (Scalar.select p (IntOp.addi r e) r) 32#32
  let d : BitVec 32 := IntOp.divsi .vector a 8#32
  let s : BitVec 32 := IntOp.subi ((IntOp.cmpi .sgt a 0#32).setWidth 32) ((IntOp.cmpi .slt a 0#32).setWidth 32)
  let g : BitVec 32 := Scalar.subi (Scalar.extui (Scalar.cmpi .sgt 8#32 0#32)) (Scalar.extui (Scalar.cmpi .slt 8#32 0#32))
  let c : BitVec 1 := IntOp.andi (IntOp.cmpi .ne s g) (IntOp.cmpi .ne (IntOp.remsi .vector a 8#32) 0#32)
  IntOp.addi hi (Scalar.select c (IntOp.subi d 1#32) d)

theorem permWord_eq : ∀ z : Fin 256, permWord (BitVec.ofNat 32 z.val) = BitVec.ofNat 32 (z.val % 8 * 32 + z.val / 8) := by
  decide +kernel

theorem perm_word (y : S256x256.Idx) :
    perm (F := Ideal) y = ((((IntOp.cmpi .eq (BitVec.ofNat 32 (y 1).val) (permWord (BitVec.ofNat 32 (y 0).val))).setWidth 32).toInt : ℝ) : EReal) := by
  rw [← iota_single_apply .tc S256x256 32 0 iota_S256x256_d0_w32 y, ← iota_single_apply .tc S256x256 32 1 iota_S256x256_d1_w32 y]
  unfold perm k0_pay13 k0_pay10 k0_pay11 k0_pay12
  dsimp only
  generalize iota .tc S256x256 32 [0] iota_S256x256_d0_w32 = I
  generalize iota .tc S256x256 32 [1] iota_S256x256_d1_w32 = J
  rfl

theorem digits : ∀ z : Fin 256, 8 * ((z.val % 8 * 32 + z.val / 8) % 32) + (z.val % 8 * 32 + z.val / 8) / 32 = z.val := by decide +kernel

theorem digits' : ∀ q : Fin 256, (8 * (q.val % 32) + q.val / 32) % 8 * 32 + (8 * (q.val % 32) + q.val / 32) / 8 = q.val := by decide +kernel

/-- The matrix: one in row `8 (q mod 32) + q / 32` of column `q`, zero elsewhere. -/
theorem perm_apply (z q : Fin 256) :
    perm (F := Ideal) (ix2 z q) = if z.val = 8 * (q.val % 32) + q.val / 32 then 1 else 0 := by
  rw [perm_word]
  have hz := z.isLt
  have hq := q.isLt
  show ((((IntOp.cmpi .eq (BitVec.ofNat 32 q.val) (permWord (BitVec.ofNat 32 z.val))).setWidth 32).toInt : ℝ) : EReal) = _
  rw [permWord_eq z]
  have e : (BitVec.ofNat 32 q.val == BitVec.ofNat 32 (z.val % 8 * 32 + z.val / 8)) = decide (z.val = 8 * (q.val % 32) + q.val / 32) := by
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      rw [this]
      exact (digits z).symm
    · intro h
      rw [h, digits' q]
  show (((BitVec.ofBool (BitVec.ofNat 32 q.val == BitVec.ofNat 32 (z.val % 8 * 32 + z.val / 8))).setWidth 32).toInt : ℝ) = (_ : EReal)
  rw [e]
  by_cases h : z.val = 8 * (q.val % 32) + q.val / 32
  · simp [h]
  · simp [h]

/-- A group of columns, permuted. -/
theorem permBlock_apply (b : FVec Ideal S256x256 .fp8e4m3) (r q : Fin 256) :
    permBlock (F := Ideal) b (ix2 r q) = b (ix2 r (⟨8 * (q.val % 32) + q.val / 32, by have := q.isLt; omega⟩ : Fin 256)) := by
  unfold permBlock
  rw [shapeCast_self, shapeCast_self]
  have h := Ideal.matmul_plain_apply (M := 256) (K := 256) (N := 256) none (φ₁ := .fp8e4m3) (φ₂ := .fp8e4m3) b (perm (F := Ideal)) (constant S256x256 .f32 0x00000000#32) r q
  refine Eq.trans (show _ = _ from h) ?_
  have h0 : (constant S256x256 .f32 0x00000000#32 : FVec Ideal S256x256 .f32) (ix2 r q) = 0 := Ideal.ofBits_zero_f32
  rw [h0, zero_add]
  rw [Finset.sum_eq_single (⟨8 * (q.val % 32) + q.val / 32, by have := q.isLt; omega⟩ : Fin 256)]
  · rw [perm_apply, if_pos rfl, mul_one]
  · intro k _ hk
    rw [perm_apply, if_neg (fun h => hk (Fin.ext h)), mul_zero]
  · intro h; exact absurd (Finset.mem_univ _) h

/-- The column a permuted column comes from. -/
def src (r : Fin 4096) : Fin 4096 :=
  ⟨256 * (r.val / 256) + (8 * (r.val % 256 % 32) + r.val % 256 / 32), by have := r.isLt; omega⟩

/-- The permuted codes are the codes at those columns. -/
theorem xqOf_apply (cd : FVec Ideal S256x4096 .fp8e4m3) (m : Fin 256) (r : Fin 4096) :
    xqOf (F := Ideal) cd (ix2 m r) = cd (ix2 m (src r)) :=
  permBlock_apply _ m (⟨r.val % 256, Nat.mod_lt _ (by decide)⟩ : Fin 256)

/-- Every column is the source of one. -/
def srcEquiv : Fin 4096 ≃ Fin 4096 where
  toFun := src
  invFun k := ⟨256 * (k.val / 256) + (32 * (k.val % 8) + k.val % 256 / 8), by have := k.isLt; omega⟩
  left_inv := by decide +kernel
  right_inv := by decide +kernel

/-- The word and the bit of a source column. -/
theorem src_word (r : Fin 4096) : (src r).val / 32 = 8 * (r.val / 256) + r.val % 32 / 4 := by
  have := r.isLt
  show (256 * (r.val / 256) + (8 * (r.val % 256 % 32) + r.val % 256 / 32)) / 32 = _
  omega

theorem src_bit (r : Fin 4096) : (src r).val % 32 = 8 * (r.val % 4) + r.val % 256 / 32 := by
  have := r.isLt
  show (256 * (r.val / 256) + (8 * (r.val % 256 % 32) + r.val % 256 / 32)) % 32 = _
  omega

end Cert.Quant
-- ==== Proof.Exponent.lean ====
/- The power-of-two scale of one token: the exponent found bit by bit over float words, and the same exponent found by
   counting the powers of two below the value. -/
module

public import Idealize.ShloMosaic.PureOps.Ideal.Laws
public import Idealize.ShloMosaic.Lib.IndicatorCount

@[expose] public section

noncomputable section

namespace Cert.Exponent

open Idealize.ShloMosaic

/-- The word with exponent field `t`, fraction zero. -/
def word (t : ℕ) : BitVec 32 := BitVec.ofNat 32 t <<< 23

/-- The float word with exponent field `t` is `2 ^ (t - 127)` -/
theorem word_eq (t : ℕ) (h1 : 1 ≤ t) (h : t ≤ 254) : Ideal.ofBits .f32 (word t) = (((2 : ℝ) ^ ((t : ℤ) - 127) : ℝ) : EReal) := by
  have e0 : (word t).toNat = t * 2 ^ 23 := by
    unfold word; rw [BitVec.toNat_shiftLeft, BitVec.toNat_ofNat, Nat.shiftLeft_eq, Nat.mod_eq_of_lt (by omega : t < 2 ^ 32)]; omega
  have eneg : ((word t).extractLsb' (8 + 23) 1 == 1#1) = false := by
    rw [beq_eq_false_iff_ne]; intro e
    have := congrArg BitVec.toNat e
    rw [BitVec.extractLsb'_toNat, e0, Nat.shiftRight_eq_div_pow] at this
    simp at this; omega
  have eex : ((word t).extractLsb' 23 8).toNat = t := by
    rw [BitVec.extractLsb'_toNat, e0, Nat.shiftRight_eq_div_pow]; omega
  have efr : ((word t).extractLsb' 0 23).toNat = 0 := by
    rw [BitVec.extractLsb'_toNat, e0, Nat.shiftRight_eq_div_pow]; omega
  have hv : ((1 : ℝ) * ((2 ^ 23 + 0 : ℕ) : ℝ) * (2 : ℝ) ^ ((t : ℤ) - (2 ^ (8 - 1) - 1) - (23 : ℕ))) = (2 : ℝ) ^ ((t : ℤ) - 127) := by
    rw [show ((t : ℤ) - 127) = ((t : ℤ) - (2 ^ (8 - 1) - 1) - (23 : ℕ)) + (23 : ℕ) by norm_num, zpow_add₀ (by norm_num : (2 : ℝ) ≠ 0),
      zpow_natCast]
    push_cast; ring
  show Ideal.ieee 8 23 (word t) = _
  unfold Ideal.ieee
  simp only [eneg, eex, efr]
  rw [if_neg (show ¬ t = 2 ^ 8 - 1 by have : 2 ^ 8 - 1 = 255 := rfl; omega), if_neg (show ¬ t = 0 by omega), if_neg Bool.false_ne_true, hv]

/-- … and the all-ones field is `⊤`. -/
theorem word_top : Ideal.ofBits .f32 (word 255) = ⊤ := by
  have eneg : ((word 255).extractLsb' (8 + 23) 1 == 1#1) = false := by decide
  have eex : ((word 255).extractLsb' 23 8).toNat = 255 := by decide
  have efr : ((word 255).extractLsb' 0 23).toNat = 0 := by decide
  unfold Ideal.ofBits Ideal.ieee
  simp only [eneg, eex, efr]
  norm_num

theorem word_mono (s t : ℕ) (h1 : 1 ≤ s) (hst : s ≤ t) (h : t ≤ 255) : Ideal.ofBits .f32 (word s) ≤ Ideal.ofBits .f32 (word t) := by
  rcases Nat.lt_or_ge t 255 with ht | ht
  · rw [word_eq s h1 (by omega), word_eq t (by omega) (by omega)]
    exact EReal.coe_le_coe_iff.mpr (zpow_le_zpow_right₀ (by norm_num) (by omega))
  · obtain rfl : t = 255 := by omega
    rw [word_top]; exact le_top

/-- One step of the search: the candidate `b + s` is taken if its power is not above `v`. -/
def step (v : EReal) (b s : BitVec 32) : BitVec 32 :=
  Scalar.select (Ideal.cmp .oge v (Ideal.ofBits .f32 ((b + s) <<< 23))) (b + s) b

/-- What holds when `w` candidates from `b` on are left. -/
def Inv (v : EReal) (n w : ℕ) : Prop :=
  n + w ≤ 256 ∧ (n = 0 ∨ Ideal.ofBits .f32 (word n) ≤ v) ∧ ∀ t, n + w ≤ t → t ≤ 255 → ¬ Ideal.ofBits .f32 (word t) ≤ v

theorem step_inv (v : EReal) (n s : ℕ) (hs : 1 ≤ s) (h : Inv v n (2 * s)) :
    ∃ n', step v (BitVec.ofNat 32 n) (BitVec.ofNat 32 s) = BitVec.ofNat 32 n' ∧ Inv v n' s := by
  obtain ⟨h1, h2, h3⟩ := h
  unfold step
  rw [← BitVec.ofNat_add]
  change ∃ n', Scalar.select (Ideal.cmp .oge v (Ideal.ofBits .f32 (word (n + s)))) _ _ = _ ∧ _
  by_cases hp : Ideal.ofBits .f32 (word (n + s)) ≤ v
  · refine ⟨n + s, ?_, by omega, .inr hp, fun t ht => h3 t (by omega)⟩
    unfold Scalar.select Ideal.cmp
    simp [hp]
  · refine ⟨n, ?_, by omega, h2, fun t ht ht' hv => hp ((word_mono _ _ (by omega) ht ht').trans hv)⟩
    unfold Scalar.select Ideal.cmp
    simp [hp]

/-- The search, eight steps. -/
def search (v : EReal) : BitVec 32 :=
  step v (step v (step v (step v (step v (step v (step v (step v 0#32 128#32) 64#32) 32#32) 16#32) 8#32) 4#32) 2#32) 1#32

theorem search_inv (v : EReal) : ∃ n, search v = BitVec.ofNat 32 n ∧ Inv v n 1 := by
  unfold search
  obtain ⟨n1, e1, h1⟩ := step_inv v 0 128 (by decide) ⟨by decide, .inl rfl, fun t ht ht' => by omega⟩
  rw [e1]
  obtain ⟨n2, e2, h2⟩ := step_inv v n1 64 (by decide) h1
  rw [e2]
  obtain ⟨n3, e3, h3⟩ := step_inv v n2 32 (by decide) h2
  rw [e3]
  obtain ⟨n4, e4, h4⟩ := step_inv v n3 16 (by decide) h3
  rw [e4]
  obtain ⟨n5, e5, h5⟩ := step_inv v n4 8 (by decide) h4
  rw [e5]
  obtain ⟨n6, e6, h6⟩ := step_inv v n5 4 (by decide) h5
  rw [e6]
  obtain ⟨n7, e7, h7⟩ := step_inv v n6 2 (by decide) h6
  rw [e7]
  exact step_inv v n7 1 (by decide) h7

/-- The field of a value: what the search finds. -/
def field (v : EReal) : ℕ := (search v).toNat

theorem field_spec (v : EReal) : search v = BitVec.ofNat 32 (field v) ∧ Inv v (field v) 1 := by
  obtain ⟨n, e, h⟩ := search_inv v
  have : field v = n := by unfold field; rw [e, BitVec.toNat_ofNat]; exact Nat.mod_eq_of_lt (by have := h.1; omega)
  rw [this]; exact ⟨e, h⟩

/-- Below `2 ^ 126` the field is at most 252. -/
theorem field_le (v : EReal) (hv : v < (((2 : ℝ) ^ (126 : ℤ) : ℝ) : EReal)) : field v ≤ 252 := by
  obtain ⟨-, h1, h2, h3⟩ := field_spec v
  by_contra hc
  rcases h2 with h2 | h2
  · omega
  have := (word_mono 253 (field v) (by decide) (by omega) (by omega)).trans h2
  rw [word_eq 253 (by decide) (by decide)] at this
  norm_num at this hv
  exact absurd hv (not_lt.mpr this)

/-- The exponent of a value: zero where the value is below the least normal number. -/
def expo (v : EReal) : ℤ := if field v = 0 then 0 else (field v : ℤ) - 126

/-- The exponent as the search's word gives it. -/
def expoWord (b : BitVec 32) : BitVec 32 :=
  Scalar.select (IntOp.ori (IntOp.cmpi .eq b 0#32) (IntOp.cmpi .eq b 255#32)) 0#32 (b - 126#32)

theorem expoWord_eq (n : ℕ) (hn : n ≤ 252) :
    expoWord (BitVec.ofNat 32 n) = if n = 0 then 0#32 else BitVec.ofNat 32 n - 126#32 := by
  unfold expoWord
  by_cases h : n = 0
  · subst h; rfl
  · rw [if_neg h]
    have a : BitVec.ofNat 32 n ≠ 0#32 := fun e => by
      have := congrArg BitVec.toNat e; simp at this; omega
    have b : BitVec.ofNat 32 n ≠ 255#32 := fun e => by
      have := congrArg BitVec.toNat e; simp at this; omega
    unfold Scalar.select IntOp.cmpi IntOp.ori
    rw [if_neg]
    simp [beq_false_of_ne a, beq_false_of_ne b]

/-- The scale's word holds `2 ^ e`, -/
theorem scale_word (v : EReal) (hv : v < (((2 : ℝ) ^ (126 : ℤ) : ℝ) : EReal)) :
    Ideal.ofBits .f32 ((127#32 + expoWord (search v)) <<< 23) = (((2 : ℝ) ^ expo v : ℝ) : EReal) := by
  have hn := field_le v hv
  rw [(field_spec v).1, expoWord_eq _ hn]
  unfold expo
  by_cases h : field v = 0
  · rw [if_pos h, if_pos h]
    exact word_eq 127 (by decide) (by decide)
  · rw [if_neg h, if_neg h]
    have e : 127#32 + (BitVec.ofNat 32 (field v) - 126#32) = BitVec.ofNat 32 (field v + 1) := by
      apply BitVec.eq_of_toNat_eq; simp [BitVec.toNat_add, BitVec.toNat_sub]; omega
    rw [e]
    refine (word_eq (field v + 1) (by omega) (by omega)).trans ?_
    congr 2; push_cast; ring

/-- and its inverse's `2 ^ -e`. -/
theorem inv_word (v : EReal) (hv : v < (((2 : ℝ) ^ (126 : ℤ) : ℝ) : EReal)) :
    Ideal.ofBits .f32 ((127#32 - expoWord (search v)) <<< 23) = (((2 : ℝ) ^ (-expo v) : ℝ) : EReal) := by
  have hn := field_le v hv
  rw [(field_spec v).1, expoWord_eq _ hn]
  unfold expo
  by_cases h : field v = 0
  · rw [if_pos h, if_pos h]
    exact word_eq 127 (by decide) (by decide)
  · rw [if_neg h, if_neg h]
    have e : 127#32 - (BitVec.ofNat 32 (field v) - 126#32) = BitVec.ofNat 32 (253 - field v) := by
      apply BitVec.eq_of_toNat_eq; simp [BitVec.toNat_sub]; omega
    rw [e]
    refine (word_eq (253 - field v) (by omega) (by omega)).trans ?_
    congr 2; rw [Nat.cast_sub (by omega)]; push_cast; ring

/-! ## The same exponent by counting -/

theorem sub_toInt (n : ℕ) (hn : n < 256) : (BitVec.ofNat 32 n - 126#32).toInt = (n : ℤ) - 126 := by
  have e : ((n : ℤ)).bmod (2 ^ 32) = n := Int.bmod_eq_of_le (by omega) (by omega)
  have e' : ((126 : ℕ) : ℤ).bmod (2 ^ 32) = 126 := by decide
  rw [BitVec.toInt_sub, BitVec.toInt_ofNat', BitVec.toInt_ofNat', e, e', Int.bmod_eq_of_le] <;> omega

/-- A column's power: `2 ^ (k - 126)`. -/
theorem column (k : ℕ) (hk : k < 256) :
    Ideal.exp2 ((((BitVec.ofNat 32 k - 126#32).toInt : ℝ)) : EReal) = (((2 : ℝ) ^ ((k : ℤ) - 126) : ℝ) : EReal) := by
  have e : (BitVec.ofNat 32 k - 126#32).toInt = (k : ℤ) - 126 := sub_toInt k hk
  rw [e, Ideal.exp2_coe, show Real.rpow 2 (((k : ℤ) - 126 : ℤ) : ℝ) = (2 : ℝ) ^ (((k : ℤ) - 126 : ℤ) : ℝ) from rfl, Real.rpow_intCast]

/-- The columns not above `v` are those below its field. -/
theorem column_le (v : EReal) (hv : v < (((2 : ℝ) ^ (126 : ℤ) : ℝ) : EReal)) (k : ℕ) (hk : k < 256) :
    (((2 : ℝ) ^ ((k : ℤ) - 126) : ℝ) : EReal) ≤ v ↔ k < field v := by
  have hn := field_le v hv
  obtain ⟨-, h1, h2, h3⟩ := field_spec v
  rcases Nat.lt_or_ge k 252 with hk' | hk'
  · have e : Ideal.ofBits .f32 (word (k + 1)) = (((2 : ℝ) ^ ((k : ℤ) - 126) : ℝ) : EReal) := by
      rw [word_eq (k + 1) (by omega) (by omega)]; congr 2; push_cast; ring
    rw [← e]
    constructor
    · intro h; by_contra hc; exact h3 (k + 1) (by omega) (by omega) h
    · intro h
      rcases h2 with h2 | h2
      · omega
      · exact (word_mono _ _ (by omega) (by omega) (by omega)).trans h2
  · constructor
    · intro h
      have : (((2 : ℝ) ^ (126 : ℤ) : ℝ) : EReal) ≤ (((2 : ℝ) ^ ((k : ℤ) - 126) : ℝ) : EReal) :=
        EReal.coe_le_coe_iff.mpr (zpow_le_zpow_right₀ (by norm_num) (by omega))
      exact absurd hv (not_lt.mpr (this.trans h))
    · omega

/-- The counted word, zero where the value is below the least normal number. -/
def countWord (v : EReal) (n : BitVec 32) : BitVec 32 :=
  Scalar.select (Ideal.cmp .olt v (Ideal.ofBits .f32 0x00800000#32)) 0#32 (n - 126#32)

theorem countWord_eq (v : EReal) (hv : v < (((2 : ℝ) ^ (126 : ℤ) : ℝ) : EReal)) :
    countWord v (BitVec.ofNat 32 (field v)) = if field v = 0 then 0#32 else BitVec.ofNat 32 (field v) - 126#32 := by
  obtain ⟨-, h1, h2, h3⟩ := field_spec v
  unfold countWord
  change Scalar.select (Ideal.cmp .olt v (Ideal.ofBits .f32 (word 1))) _ _ = _
  by_cases h : field v = 0
  · have : v < Ideal.ofBits .f32 (word 1) := not_le.mp (h3 1 (by omega) (by decide))
    rw [if_pos h]; unfold Scalar.select Ideal.cmp; simp [this]
  · have : ¬ v < Ideal.ofBits .f32 (word 1) := by
      rcases h2 with h2 | h2
      · exact absurd h2 h
      · exact not_lt.mpr ((word_mono 1 _ (by decide) (by omega) (by omega)).trans h2)
    rw [if_neg h]; unfold Scalar.select Ideal.cmp; simp [this]

theorem countWord_toInt (v : EReal) (hv : v < (((2 : ℝ) ^ (126 : ℤ) : ℝ) : EReal)) :
    (countWord v (BitVec.ofNat 32 (field v))).toInt = expo v := by
  have hn := field_le v hv
  rw [countWord_eq v hv]
  unfold expo
  by_cases h : field v = 0
  · rw [if_pos h, if_pos h]; rfl
  · rw [if_neg h, if_neg h]; exact sub_toInt _ (by omega)

theorem count_scale (v : EReal) (hv : v < (((2 : ℝ) ^ (126 : ℤ) : ℝ) : EReal)) :
    Ideal.exp2 (((countWord v (BitVec.ofNat 32 (field v))).toInt : ℝ) : EReal) = (((2 : ℝ) ^ expo v : ℝ) : EReal) := by
  rw [countWord_toInt v hv, Ideal.exp2_coe, show Real.rpow 2 ((expo v : ℤ) : ℝ) = (2 : ℝ) ^ ((expo v : ℤ) : ℝ) from rfl, Real.rpow_intCast]

theorem count_inv (v : EReal) (hv : v < (((2 : ℝ) ^ (126 : ℤ) : ℝ) : EReal)) :
    Ideal.exp2 (0 - (((countWord v (BitVec.ofNat 32 (field v))).toInt : ℝ) : EReal)) = (((2 : ℝ) ^ (-expo v) : ℝ) : EReal) := by
  rw [countWord_toInt v hv, zero_sub, ← EReal.coe_neg, ← Int.cast_neg, Ideal.exp2_coe,
    show Real.rpow 2 ((-expo v : ℤ) : ℝ) = (2 : ℝ) ^ ((-expo v : ℤ) : ℝ) from rfl, Real.rpow_intCast]

end Cert.Exponent
-- ==== Proof.Quant.lean ====
/- The quantiser at the exact instance: what the kernel's codes and scale are, and what the reference's are. -/
module

public import proofs.«01_k».proof.Proof.KernelBlock
public import proofs.«01_k».proof.Proof.Exponent
public import Idealize.ShloMosaic.Lib.Pipeline.Value
public import Idealize.ShloMosaic.Lib.ValueIdx
public import proofs.«01_k».proof.Proof.Gen.ReferenceIdeal.Frame

@[expose] public section

noncomputable section

namespace Cert.Quant

open Idealize.ShloMosaic Idealize.ShloMosaic.ValueIdx Cert.Exponent
open Cert.KernelIdeal (S256x4096 S256x1)

/-! ## The kernel's -/

/-- The value whose exponent is taken: the row's largest magnitude over 448. -/
def val (x : FVec Ideal S256x4096 .bf16) : FVec Ideal S256x1 .f32 := Cert.KernelIdeal.Gen.k0_pay3 x

/-- One step of the search on vectors is a step at each index. -/
theorem select_step (v : FVec Ideal S256x1 .f32) (b : IVec S256x1 32) (s : BitVec 32) (i : S256x1.Idx) :
    select (cmpf .oge v (bitcastToFloat .f32 (shli (addi b (broadcast S256x1 s)) (broadcast S256x1 23#32))))
      (addi b (broadcast S256x1 s)) b i = step (v i) (b i) s := rfl

theorem pay4_apply (x : FVec Ideal S256x4096 .bf16) (i : S256x1.Idx) :
    Cert.KernelIdeal.Gen.k0_pay4 (F := Ideal) x i
      = step (val x i) (step (val x i) (step (val x i) (step (val x i) (step (val x i) 0#32 128#32) 64#32) 32#32) 16#32) 8#32 := by
  unfold Cert.KernelIdeal.Gen.k0_pay4
  change _ = step (val x i) (step (val x i) (step (val x i) (step (val x i) (step (val x i) ((broadcast S256x1 0#32 : IVec S256x1 32) i) 128#32) 64#32) 32#32) 16#32) 8#32
  unfold val
  generalize Cert.KernelIdeal.Gen.k0_pay3 (F := Ideal) x = v
  generalize (broadcast S256x1 0#32 : IVec S256x1 32) = b0
  generalize h1 : select (cmpf .oge v (bitcastToFloat .f32 (shli (addi b0 (broadcast S256x1 128#32)) (broadcast S256x1 23#32))))
      (addi b0 (broadcast S256x1 128#32)) b0 = b1
  generalize h2 : select (cmpf .oge v (bitcastToFloat .f32 (shli (addi b1 (broadcast S256x1 64#32)) (broadcast S256x1 23#32))))
      (addi b1 (broadcast S256x1 64#32)) b1 = b2
  generalize h3 : select (cmpf .oge v (bitcastToFloat .f32 (shli (addi b2 (broadcast S256x1 32#32)) (broadcast S256x1 23#32))))
      (addi b2 (broadcast S256x1 32#32)) b2 = b3
  generalize h4 : select (cmpf .oge v (bitcastToFloat .f32 (shli (addi b3 (broadcast S256x1 16#32)) (broadcast S256x1 23#32))))
      (addi b3 (broadcast S256x1 16#32)) b3 = b4
  generalize h5 : select (cmpf .oge v (bitcastToFloat .f32 (shli (addi b4 (broadcast S256x1 8#32)) (broadcast S256x1 23#32))))
      (addi b4 (broadcast S256x1 8#32)) b4 = b5
  rw [← select_step v b0 128#32 i, h1, ← select_step v b1 64#32 i, h2, ← select_step v b2 32#32 i, h3, ← select_step v b3 16#32 i, h4, ← select_step v b4 8#32 i, h5]

theorem pay5_apply (v : FVec Ideal S256x1 .f32) (b : IVec S256x1 32) (i : S256x1.Idx) :
    Cert.KernelIdeal.Gen.k0_pay5 (F := Ideal) v b 4#32 i
      = expoWord (step (v i) (step (v i) (step (v i) (b i) 4#32) 2#32) 1#32) := by
  unfold Cert.KernelIdeal.Gen.k0_pay5
  generalize h1 : select (cmpf .oge v (bitcastToFloat .f32 (shli (addi b (broadcast S256x1 4#32)) (broadcast S256x1 23#32))))
      (addi b (broadcast S256x1 4#32)) b = b1
  generalize h2 : select (cmpf .oge v (bitcastToFloat .f32 (shli (addi b1 (broadcast S256x1 2#32)) (broadcast S256x1 23#32))))
      (addi b1 (broadcast S256x1 2#32)) b1 = b2
  generalize h3 : select (cmpf .oge v (bitcastToFloat .f32 (shli (addi b2 (broadcast S256x1 1#32)) (broadcast S256x1 23#32))))
      (addi b2 (broadcast S256x1 1#32)) b2 = b3
  rw [← select_step v b 4#32 i, h1, ← select_step v b1 2#32 i, h2, ← select_step v b2 1#32 i, h3]
  rfl

theorem exponent_apply (x : FVec Ideal S256x4096 .bf16) (i : S256x1.Idx) :
    Cert.KernelIdeal.Gen.k0_pay5 (F := Ideal) (val x) (Cert.KernelIdeal.Gen.k0_pay4 (F := Ideal) x) 4#32 i = expoWord (search (val x i)) := by
  rw [pay5_apply, pay4_apply]; rfl

/-- The row of an index, as an index of the column of scales. -/
def row (y : S256x4096.Idx) : S256x1.Idx := ix2 (y 0) 0

/-- The kernel's scale is the power of two of the row's exponent, -/
theorem scaleOf_apply (x : FVec Ideal S256x4096 .bf16) (i : S256x1.Idx) (hv : val x i < (((2 : ℝ) ^ (126 : ℤ) : ℝ) : EReal)) :
    Cert.KernelIdeal.Hand.scaleOf (F := Ideal) x i = (((2 : ℝ) ^ expo (val x i) : ℝ) : EReal) := by
  rw [← scale_word _ hv, ← exponent_apply]; rfl

/-- and its codes are the elements over it, clamped. -/
theorem codesOf_apply (x : FVec Ideal S256x4096 .bf16) (y : S256x4096.Idx) (hv : val x (row y) < (((2 : ℝ) ^ (126 : ℤ) : ℝ) : EReal)) :
    Cert.KernelIdeal.Hand.codesOf (F := Ideal) x y
      = min (Ideal.ofBits .f32 1138753536#32) (max (Ideal.ofBits .f32 0xC3E00000#32) (x y * (((2 : ℝ) ^ (-expo (val x (row y))) : ℝ) : EReal))) := by
  rw [← inv_word _ hv, ← exponent_apply]
  unfold Cert.KernelIdeal.Hand.codesOf Cert.KernelIdeal.Gen.k0_pay8 Cert.KernelIdeal.Gen.k0_pay7 Cert.KernelIdeal.Gen.k0_pay2
  dsimp only
  rw [shapeCast_self]
  show min _ (max _ (x y * _)) = _
  rw [broadcastTo_apply _ _ _ (row y)]
  · rfl
  · intro a; fin_cases a <;> rfl

end Cert.Quant
-- ==== Proof.QuantRef.lean ====
/- The reference's quantiser at the exact instance: it counts the powers of two that do not pass the value, and that
   count is the field the kernel searches for; so the scales agree and the codes agree. -/
module

public import proofs.«01_k».proof.Proof.Quant
public import Idealize.ShloMosaic.Lib.IndicatorCount

@[expose] public section

noncomputable section

namespace Cert.Quant

open Idealize.ShloMosaic Idealize.ShloMosaic.ValueIdx Cert.Exponent
open Cert.KernelIdeal (S256x4096 S256x1)
open Cert.ReferenceIdeal (S256x256 S256)
open Cert.ReferenceIdeal.Facts Cert.ReferenceIdeal.Gen

theorem bot_bf16 : Ideal.ofBits .bf16 0xFF80#16 = ⊥ := by
  simp [Ideal.ofBits, Ideal.ieee]

theorem bot_f32 : Ideal.ofBits .f32 0xFF800000#32 = ⊥ := by
  simp [Ideal.ofBits, Ideal.ieee]

/-- The value on the reference's side, -/
def refVal (x : FVec Ideal S256x4096 .bf16) : FVec Ideal S256x1 .f32 :=
  mulf (shapeCast S256x1 (multiReduction .maximumf [1] S256 (absf (k0_pay2 (F := Ideal) x)) 0xFF800000#32 reduces_S256x4096_S256 (.inl rfl) rfl)
    shapeCasts_S256_S256x1) (broadcast S256x1 (Scalar.ofBits .f32 0x3B124925#32))

theorem widen (A : FVec Ideal S256 .f32) (B : FVec Ideal S256 .bf16) (h : ∀ j, A j = B j) (c : FVec Ideal S256x1 .f32) :
    mulf (shapeCast S256x1 A shapeCasts_S256_S256x1) c
      = mulf (extf .f32 (shapeCast S256x1 B shapeCasts_S256_S256x1) bitsLt_bf16_f32) c := by
  have hAB : (A : S256.Idx → EReal) = B := funext h
  subst hAB
  rfl

/-- is the kernel's: widening before the maximum or after it gives the same. -/
theorem refVal_eq (x : FVec Ideal S256x4096 .bf16) : refVal x = val x := by
  unfold refVal val Cert.KernelIdeal.Gen.k0_pay3
  dsimp only
  generalize (broadcast S256x1 (Scalar.ofBits .f32 0x3B124925#32) : FVec Ideal S256x1 .f32) = c
  have h : ∀ j : S256.Idx,
      (multiReduction .maximumf [1] S256 (absf (k0_pay2 (F := Ideal) x)) 0xFF800000#32 reduces_S256x4096_S256 (.inl rfl) rfl : FVec Ideal S256 .f32) j
        = (multiReduction .maximumf [1] S256 (absf (Cert.KernelIdeal.Gen.k0_pay2 (F := Ideal) x)) 0xFF80#16 reduces_S256x4096_S256 (.inr rfl) rfl : FVec Ideal S256 .bf16) j := by
    intro j
    have h1 := multiReduction_maximumf_eq_fold (F := Ideal) (absf (k0_pay2 (F := Ideal) x)) 0xFF800000#32 reduces_S256x4096_S256 (.inl rfl) rfl j
    have h2 := multiReduction_maximumf_eq_fold (F := Ideal) (absf (Cert.KernelIdeal.Gen.k0_pay2 (F := Ideal) x)) 0xFF80#16 reduces_S256x4096_S256 (.inr rfl) rfl j
    rw [Ideal.ofBits_def, bot_f32] at h1
    rw [Ideal.ofBits_def, bot_bf16] at h2
    refine h1.trans (Eq.trans ?_ h2.symm)
    generalize (Finset.univ.filter fun i => reduces_S256x4096_S256.drop i = j) = S
    have h3 : ∀ (f g : S256x4096.Idx → EReal), f = g → Finset.fold (FloatOps.maximumf (F := Ideal) (φ := .f32)) (⊥ : EReal) f S
        = Finset.fold (FloatOps.maximumf (F := Ideal) (φ := .bf16)) (⊥ : EReal) g S := by
      intro f g h; rw [h]; rfl
    refine h3 _ _ ?_
    unfold k0_pay2 Cert.KernelIdeal.Gen.k0_pay2
    rw [shapeCast_self]
    rfl
  exact widen _ _ h c

/-- The reference's table of comparisons: column `k` of a row asks whether two to `k − 126` does not pass the value. -/
def table (v : FVec Ideal S256x1 .f32) : IVec S256x256 1 :=
  cmpf .oge (broadcastTo S256x256 v broadcasts_S256x1_S256x256)
    (exp2 (sitofp .f32 (subi (iota .tc S256x256 32 [1] iota_S256x256_d1_w32) (broadcast S256x256 126#32))))

theorem table_apply (v : FVec Ideal S256x1 .f32) (y : S256x256.Idx) (hv : v (ix2 (y 0) 0) < (((2 : ℝ) ^ (126 : ℤ) : ℝ) : EReal)) :
    table v y = 1#1 ↔ (y 1).val < field (v (ix2 (y 0) 0)) := by
  have hy : (y 1).val < 256 := (y 1).isLt
  rw [← column_le _ hv _ hy, ← column _ hy]
  unfold table
  show BitVec.ofBool (decide (_ ≤ broadcastTo S256x256 v _ y)) = 1#1 ↔ _
  rw [broadcastTo_apply _ _ _ (ix2 (y 0 : Fin 256) (0 : Fin 1) : S256x1.Idx) (by intro a; fin_cases a <;> rfl)]
  have e : (exp2 (sitofp .f32 (subi (iota .tc S256x256 32 [1] iota_S256x256_d1_w32) (broadcast S256x256 126#32))) : FVec Ideal S256x256 .f32) y
      = Ideal.exp2 (((BitVec.ofNat 32 (y 1).val - 126#32).toInt : ℝ) : EReal) := by
    show Ideal.exp2 (((iota .tc S256x256 32 [1] iota_S256x256_d1_w32 y - 126#32).toInt : ℝ) : EReal) = _
    rw [iota_single_apply]
  rw [e]
  generalize Ideal.exp2 _ = a
  generalize v _ = b
  by_cases h : a ≤ b
  · simp [h]
  · simp [h]

theorem table_row (v : FVec Ideal S256x1 .f32) (r k : Fin 256) (hv : v (ix2 r 0) < (((2 : ℝ) ^ (126 : ℤ) : ℝ) : EReal)) :
    table v (ix2 r k) = 1#1 ↔ k.val < field (v (ix2 r 0)) := table_apply v (ix2 r k) hv

theorem drop_row (r : Fin 256) (y : S256x256.Idx) : reduces_S256x256_S256.drop y = (ix1 r : S256.Idx) ↔ y 0 = r := by
  constructor
  · intro h
    have := Shape.Reduces.drop_apply_val_of_eq reduces_S256x256_S256 y (0 : Fin 1) (0 : Fin 2)
    rw [h] at this
    exact Fin.ext this.symm
  · intro h
    funext b
    have hb : b = (0 : Fin 1) := Subsingleton.elim (α := Fin 1) _ _
    subst hb
    refine Fin.ext ?_
    rw [Shape.Reduces.drop_apply_val_of_eq reduces_S256x256_S256 y (0 : Fin 1) (0 : Fin 2)]
    exact congrArg Fin.val h

/-- The ones of a row of the table stand in the columns below the field. -/
theorem ones_row (v : FVec Ideal S256x1 .f32) (r : Fin 256) (hv : v (ix2 r 0) < (((2 : ℝ) ^ (126 : ℤ) : ℝ) : EReal)) :
    (Finset.univ.filter fun y : S256x256.Idx => reduces_S256x256_S256.drop y = (ix1 r : S256.Idx) ∧ table v y = 1#1)
      = (Finset.univ.filter fun k : Fin 256 => k.val < field (v (ix2 r 0))).map
          ⟨fun k => (ix2 r k : S256x256.Idx), fun a b h => congrFun h (1 : Fin 2)⟩ := by
  ext y
  rw [Finset.mem_filter, Finset.mem_map, drop_row]
  constructor
  · rintro ⟨-, h0, h1⟩
    have hy : y = ix2 r (y 1 : Fin 256) := (eq_ix2 y).trans (congrArg (fun z : Fin 256 => (ix2 z (y 1 : Fin 256) : S256x256.Idx)) h0)
    refine ⟨(y 1 : Fin 256), Finset.mem_filter.2 ⟨Finset.mem_univ _, ?_⟩, hy.symm⟩
    rw [hy] at h1
    exact (table_row v r _ hv).1 h1
  · rintro ⟨k, hk, rfl⟩
    exact ⟨Finset.mem_univ _, rfl, (table_row v r k hv).2 (Finset.mem_filter.1 hk).2⟩

/-- The count of a row of the table is the field. -/
theorem count_row (v : FVec Ideal S256x1 .f32) (r : Fin 256) (hv : v (ix2 r 0) < (((2 : ℝ) ^ (126 : ℤ) : ℝ) : EReal)) :
    shapeCast S256x1 (multiReductionI .add [1] S256 (extui 32 (table v) natLt_1_32) 0#32 reduces_S256x256_S256 rfl) shapeCasts_S256_S256x1 (ix2 r 0)
      = BitVec.ofNat 32 (field (v (ix2 r 0))) := by
  rw [shapeCast_apply _ _ (ix2 r 0) (ix1 r : S256.Idx) (by
    rw [Shape.rowMajor_val_one, Shape.rowMajor_val_two]
    show r.val = r.val * 1 + 0
    omega)]
  refine (multiReductionI_eq_fold _ _ _ _ _ _).trans ?_
  refine (IndicatorCount.fold_addi_setWidth_eq_card (table v) _).trans ?_
  refine congrArg _ ?_
  rw [Finset.filter_filter, ones_row v r hv, Finset.card_map, Fin.card_filter_val_lt]
  exact min_eq_right ((field_le _ hv).trans (by decide))

/-- The reference's exponent word, of its value. -/
def refExp (v : FVec Ideal S256x1 .f32) : IVec S256x1 32 :=
  select (cmpf .olt v (broadcast S256x1 (Scalar.ofBits .f32 0x00800000#32))) (broadcast S256x1 0#32)
    (subi (shapeCast S256x1 (multiReductionI .add [1] S256 (extui 32 (table v) natLt_1_32) 0#32 reduces_S256x256_S256 rfl) shapeCasts_S256_S256x1)
      (broadcast S256x1 126#32))

theorem refExp_eq (x : FVec Ideal S256x4096 .bf16) : k0_pay3 (F := Ideal) x = refExp (refVal x) := by
  unfold k0_pay3 refExp table refVal
  rfl

theorem refExp_row (v : FVec Ideal S256x1 .f32) (r : Fin 256) (hv : v (ix2 r 0) < (((2 : ℝ) ^ (126 : ℤ) : ℝ) : EReal)) :
    refExp v (ix2 r 0) = countWord (v (ix2 r 0)) (BitVec.ofNat 32 (field (v (ix2 r 0)))) := by
  rw [← count_row v r hv]
  unfold refExp countWord
  generalize shapeCast S256x1 _ _ = n
  rfl

/-- It is the counted word of the field. -/
theorem refExponent (x : FVec Ideal S256x4096 .bf16) (r : Fin 256) (hv : val x (ix2 r 0) < (((2 : ℝ) ^ (126 : ℤ) : ℝ) : EReal)) :
    k0_pay3 (F := Ideal) x (ix2 r 0) = countWord (val x (ix2 r 0)) (BitVec.ofNat 32 (field (val x (ix2 r 0)))) := by
  rw [refExp_eq, refVal_eq]
  exact refExp_row (val x) r hv

theorem refScale_row (x : FVec Ideal S256x4096 .bf16) (r : Fin 256) (hv : val x (ix2 r 0) < (((2 : ℝ) ^ (126 : ℤ) : ℝ) : EReal)) :
    k0_pay4 (F := Ideal) x (ix2 r 0) = (((2 : ℝ) ^ expo (val x (ix2 r 0)) : ℝ) : EReal) := by
  rw [← count_scale _ hv, ← refExponent x r hv]; rfl

theorem refCodes_row (x : FVec Ideal S256x4096 .bf16) (r : Fin 256) (k : Fin 4096)
    (hv : val x (ix2 r 0) < (((2 : ℝ) ^ (126 : ℤ) : ℝ) : EReal)) :
    k0_pay5 (F := Ideal) x (ix2 r k)
      = min (Ideal.ofBits .f32 1138753536#32) (max (Ideal.ofBits .f32 0xC3E00000#32) (x (ix2 r k) * (((2 : ℝ) ^ (-expo (val x (ix2 r 0))) : ℝ) : EReal))) := by
  rw [← count_inv _ hv, ← refExponent x r hv]
  unfold k0_pay5 k0_pay2
  dsimp only
  rw [shapeCast_self]
  show min _ (max _ (x (ix2 r k) * broadcastTo S256x4096 _ _ (ix2 r k))) = _
  rw [broadcastTo_apply _ _ _ (ix2 r 0 : S256x1.Idx) (by intro a; fin_cases a <;> rfl), ← Ideal.ofBits_zero_f32]
  rfl

/-- The two quantisers agree: the scales, -/
theorem scale_eq (x : FVec Ideal S256x4096 .bf16) (hv : ∀ i, val x i < (((2 : ℝ) ^ (126 : ℤ) : ℝ) : EReal)) :
    Cert.KernelIdeal.Hand.scaleOf (F := Ideal) x = k0_pay4 (F := Ideal) x := by
  funext i
  have hi : i = ix2 (i 0 : Fin 256) (0 : Fin 1) := by
    refine (eq_ix2 i).trans ?_
    exact congrArg (ix2 (i 0 : Fin 256)) (Subsingleton.elim (α := Fin 1) _ _)
  rw [scaleOf_apply x i (hv i), hi]
  exact (refScale_row x _ (hv _)).symm

/-- and the codes. -/
theorem codes_eq (x : FVec Ideal S256x4096 .bf16) (hv : ∀ i, val x i < (((2 : ℝ) ^ (126 : ℤ) : ℝ) : EReal)) :
    Cert.KernelIdeal.Hand.codesOf (F := Ideal) x = k0_pay5 (F := Ideal) x := by
  have h : ∀ (r : Fin 256) (k : Fin 4096), Cert.KernelIdeal.Hand.codesOf (F := Ideal) x (ix2 r k) = k0_pay5 (F := Ideal) x (ix2 r k) :=
    fun r k => (codesOf_apply x (ix2 r k) (hv _)).trans (refCodes_row x r k (hv _)).symm
  funext y
  have hy : y = ix2 (y 0 : Fin 256) (y 1 : Fin 4096) := eq_ix2 y
  exact (congrArg _ hy).trans ((h _ _).trans (congrArg _ hy.symm))

end Cert.Quant
-- ==== Proof.Bound.lean ====
/- The bound the precondition gives: where every element of `x` is finite, the value whose exponent is taken lies far
   below two to the 126. -/
module

public import proofs.«01_k».proof.Proof.Quant
public import Idealize.ShloMosaic.Lib.ReduceAll
public import Idealize.ShloMosaic.Lib.ValueIdx
public import proofs.«01_k».proof.Pre_finite

@[expose] public section

noncomputable section

namespace Cert.Quant

open Idealize.ShloMosaic Idealize.ShloMosaic.ValueIdx
open Cert.KernelIdeal (S256x4096 S256x1 S256)

/-- A positive normal number, by its fields. -/
theorem ieee_normal (e m : ℕ) {w : ℕ} (b : BitVec w) (ex fr : ℕ) (hn : (b.extractLsb' (e + m) 1 == 1#1) = false)
    (hex : (b.extractLsb' m e).toNat = ex) (hfr : (b.extractLsb' 0 m).toNat = fr) (h1 : ¬ ex = 2 ^ e - 1) (h0 : ¬ ex = 0) :
    Ideal.ieee e m b = ((1 * ((2 ^ m + fr : ℕ) : ℝ) * (2 : ℝ) ^ ((ex : ℤ) - (2 ^ (e - 1) - 1) - (m : ℤ)) : ℝ) : EReal) := by
  unfold Ideal.ieee
  simp only [hn, hex, hfr]
  rw [if_neg h1, if_neg h0, if_neg Bool.false_ne_true]

/-- … and a negative one. -/
theorem ieee_negative (e m : ℕ) {w : ℕ} (b : BitVec w) (ex fr : ℕ) (hn : (b.extractLsb' (e + m) 1 == 1#1) = true)
    (hex : (b.extractLsb' m e).toNat = ex) (hfr : (b.extractLsb' 0 m).toNat = fr) (h1 : ¬ ex = 2 ^ e - 1) (h0 : ¬ ex = 0) :
    Ideal.ieee e m b = (((-1) * ((2 ^ m + fr : ℕ) : ℝ) * (2 : ℝ) ^ ((ex : ℤ) - (2 ^ (e - 1) - 1) - (m : ℤ)) : ℝ) : EReal) := by
  unfold Ideal.ieee
  simp only [hn, hex, hfr]
  rw [if_neg h1, if_neg h0, if_pos trivial]

/-- The greatest finite number of the format, and -/
theorem big_eq : Ideal.ofBits .bf16 0x7F7F#16 = ((255 * (2 : ℝ) ^ (120 : ℤ) : ℝ) : EReal) := by
  refine (ieee_normal 8 7 0x7F7F#16 254 127 (by decide) (by decide) (by decide) (by decide) (by decide)).trans ?_
  refine congrArg _ ?_
  rw [show ((254 : ℕ) : ℤ) - (2 ^ (8 - 1) - 1) - ((7 : ℕ) : ℤ) = 120 by norm_num, one_mul]
  refine congrArg (· * _) ?_
  norm_num

/-- the factor 1/448 as it is rounded. -/
theorem factor_eq : Ideal.ofBits .f32 0x3B124925#32 = ((9586981 * (2 : ℝ) ^ (-32 : ℤ) : ℝ) : EReal) := by
  refine (ieee_normal 8 23 0x3B124925#32 118 1198373 (by decide) (by decide) (by decide) (by decide) (by decide)).trans ?_
  refine congrArg _ ?_
  rw [show ((118 : ℕ) : ℤ) - (2 ^ (8 - 1) - 1) - ((23 : ℕ) : ℤ) = -32 by norm_num, one_mul]
  refine congrArg (· * _) ?_
  norm_num

theorem mul_factor_lt (M : EReal) (h : M ≤ ((255 * (2 : ℝ) ^ (120 : ℤ) : ℝ) : EReal)) :
    M * ((9586981 * (2 : ℝ) ^ (-32 : ℤ) : ℝ) : EReal) < (((2 : ℝ) ^ (126 : ℤ) : ℝ) : EReal) := by
  have hc : (0 : ℝ) < 9586981 * (2 : ℝ) ^ (-32 : ℤ) := by positivity
  induction M with
  | bot => rw [EReal.bot_mul_coe_of_pos hc]; exact EReal.bot_lt_coe _
  | top => exact absurd h (not_le.mpr (EReal.coe_lt_top _))
  | coe r =>
    rw [← EReal.coe_mul, EReal.coe_lt_coe_iff]
    have hr : r ≤ 255 * (2 : ℝ) ^ (120 : ℤ) := EReal.coe_le_coe_iff.mp h
    refine lt_of_le_of_lt (mul_le_mul_of_nonneg_right hr hc.le) ?_
    norm_num

/-- The row maxima are bounded when the elements are, -/
theorem max_le (x : FVec Ideal S256x4096 .bf16) (B : EReal) (hx : ∀ y, max (x y) (-(x y)) ≤ B) (j : S256.Idx) :
    (multiReduction .maximumf [1] S256 (absf (Cert.KernelIdeal.Gen.k0_pay2 (F := Ideal) x)) 0xFF80#16 Cert.KernelIdeal.Gen.reduces_S256x4096_S256 (.inr rfl) rfl : FVec Ideal S256 .bf16) j
      ≤ B := by
  have h2 := multiReduction_maximumf_eq_fold (F := Ideal) (absf (Cert.KernelIdeal.Gen.k0_pay2 (F := Ideal) x)) 0xFF80#16 Cert.KernelIdeal.Gen.reduces_S256x4096_S256 (.inr rfl) rfl j
  have hb : Ideal.ofBits .bf16 0xFF80#16 = ⊥ := by simp [Ideal.ofBits, Ideal.ieee]
  rw [Ideal.ofBits_def, hb] at h2
  refine h2.le.trans ?_
  refine (Finset.fold_max_le (b := (⊥ : EReal)) _).2 ⟨bot_le, fun y _ => ?_⟩
  unfold Cert.KernelIdeal.Gen.k0_pay2
  dsimp only
  rw [shapeCast_self]
  exact hx y

/-- … so is their product with the factor, -/
theorem product_lt (A : FVec Ideal S256 .bf16) (hM : ∀ j, A j ≤ ((255 * (2 : ℝ) ^ (120 : ℤ) : ℝ) : EReal)) (c : Ideal .f32)
    (hc : c = ((9586981 * (2 : ℝ) ^ (-32 : ℤ) : ℝ) : EReal)) (i : S256x1.Idx) :
    mulf (extf .f32 (shapeCast S256x1 A Cert.KernelIdeal.Gen.shapeCasts_S256_S256x1) Cert.KernelIdeal.Gen.bitsLt_bf16_f32) (broadcast S256x1 c) i
      < (((2 : ℝ) ^ (126 : ℤ) : ℝ) : EReal) := by
  subst hc
  exact mul_factor_lt _ (hM _)

theorem scalar_ofBits (b : BitVec 32) : (Scalar.ofBits .f32 b : Ideal .f32) = Ideal.ofBits .f32 b := rfl

/-- … and so is the value. -/
theorem val_lt (x : FVec Ideal S256x4096 .bf16) (hx : ∀ y, max (x y) (-(x y)) ≤ ((255 * (2 : ℝ) ^ (120 : ℤ) : ℝ) : EReal)) (i : S256x1.Idx) :
    val x i < (((2 : ℝ) ^ (126 : ℤ) : ℝ) : EReal) := by
  unfold val Cert.KernelIdeal.Gen.k0_pay3
  dsimp only
  refine product_lt _ (max_le x _ hx) _ ?_ i
  exact (scalar_ofBits _).trans factor_eq

/-- What the precondition says of an element. -/
theorem finite_elem [Cert.Pre_finite.Facts] (a0 : FVec Ideal Cert.Pre_finite.S1x256x4096 .bf16) (a1 a2 : IVec Cert.Pre_finite.S14336x128 32)
    (a3 : FVec Ideal Cert.Pre_finite.S14336 .bf16) (h : Cert.Pre_finite.fn a0 a1 a2 a3 = fun _ => 1#1) (z : Cert.Pre_finite.S1x256x4096.Idx) :
    max (a0 z) (-(a0 z)) ≤ ((255 * (2 : ℝ) ^ (120 : ℤ) : ℝ) : EReal) := by
  have h0 := congrFun h (fun a => a.elim0)
  unfold Cert.Pre_finite.fn at h0
  dsimp only at h0
  haveI : Subsingleton Cert.Pre_finite.S_.Idx := ⟨fun a b => funext fun i => i.elim0⟩
  have h1 := Host.reduce_andi_all _ _ _ _ _ h0 z
  rw [← big_eq]
  have h2 : BitVec.ofBool (decide (max (a0 z) (-(a0 z)) ≤ Ideal.ofBits .bf16 0x7F7F#16)) = 1#1 := h1
  by_contra hn
  simp [hn] at h2

end Cert.Quant
-- ==== Proof.Weight.lean ====
/- A weight at the exact instance, and the product of codes by weights: the kernel's sum over permuted columns of codes
   by doubled weights is twice the reference's sum. -/
module

public import proofs.«01_k».proof.Proof.Perm
public import proofs.«01_k».proof.Proof.QuantRef
public import proofs.«01_k».proof.Proof.Bound

@[expose] public section

noncomputable section

namespace Cert.Quant

open Idealize.ShloMosaic Idealize.ShloMosaic.ValueIdx Cert.Exponent
open Cert.KernelIdeal (S256x4096 S256x1 S1024x128 S4096x1024 S256x1024 S1x1024)
open Cert.ReferenceIdeal (S14336x4096 S1x14336 S256x14336)
open Cert.KernelIdeal.Hand

/-- A ternary weight: its mask bit says whether it is there, its sign bit whether it is negative. -/
def ternary (s m : Bool) : ℤ := bif m then (bif s then -1 else 1) else 0

/-- The byte the kernel makes is twice the weight. -/
theorem weight_eq (s m : Bool) : Ideal.ofBits .fp8e4m3 (signMask s m) = (((2 * (ternary s m : ℝ) : ℝ)) : EReal) := by
  show Ideal.e4m3fn (signMask s m) = _
  cases s <;> cases m <;> simp [Ideal.e4m3fn, signMask, ternary] <;> norm_num
  all_goals
    rw [← EReal.coe_mul]
    norm_num

theorem coe_sum {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- A clamped value is a real number. -/
theorem clamp_real (z : EReal) : ∃ f : ℝ, min (Ideal.ofBits .f32 1138753536#32) (max (Ideal.ofBits .f32 0xC3E00000#32) z) = (f : EReal) := by
  have h1 : ∃ a : ℝ, Ideal.ofBits .f32 1138753536#32 = (a : EReal) :=
    ⟨_, ieee_normal 8 23 1138753536#32 135 6291456 (by decide) (by decide) (by decide) (by decide) (by decide)⟩
  have h2 : ∃ a : ℝ, Ideal.ofBits .f32 0xC3E00000#32 = (a : EReal) := by
    refine ⟨_, ieee_negative 8 23 0xC3E00000#32 135 6291456 (by decide) (by decide) (by decide) (by decide) (by decide)⟩
  obtain ⟨a, ha⟩ := h1
  obtain ⟨b, hb⟩ := h2
  rw [ha, hb]
  induction z with
  | bot => exact ⟨min a b, by rw [max_eq_left bot_le, EReal.coe_strictMono.monotone.map_min]⟩
  | top => exact ⟨a, by rw [max_eq_right le_top, min_eq_left le_top]⟩
  | coe r => exact ⟨min a (max b r), by rw [EReal.coe_strictMono.monotone.map_min, EReal.coe_strictMono.monotone.map_max]⟩

end Cert.Quant
-- ==== Proof.RefPrefix.lean ====
/- What the reference's host lines leave: the activations and the row scales re-laid, and the ternary weights, element
   by element from the two bit planes. -/
module

public import proofs.«01_k».proof.Proof.Gen.ReferenceIdeal.Frame
public import proofs.«01_k».proof.Proof.Weight
public import Idealize.ShloMosaic.Lib.Pipeline.Value
public import Idealize.ShloMosaic.Lib.StableHlo.Run
public import Idealize.ShloMosaic.Lib.StableHlo.RunClose

@[expose] public section

noncomputable section

namespace Cert.ReferenceIdeal.Hand

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ)

theorem V_main_v22 (c : Dev nD) : V m c main_v22
    = shapeCast S256x4096 (m ((c : Thread nD τ).loc main_arg0)) shapeCasts_S1x256x4096_S256x4096 := by
  unfold V
  after_results
  rfl

theorem V_main_v23 (c : Dev nD) : V m c main_v23
    = shapeCast S1x14336 (m ((c : Thread nD τ).loc main_arg3)) shapeCasts_S14336_S1x14336 := by
  unfold V
  after_results
  rfl

/-- One plane of bits: element `(n, w, b)` is bit `b` of word `w` of row `n`. -/
def plane (a : IVec S14336x128 32) : IVec S14336x128x32 32 :=
  andi (Host.shrsi (broadcastInDim S14336x128x32 ![0, 1, 2] bcast_S14336x128x1_S14336x128x32_0_1_2
      (broadcastInDim S14336x128x1 ![0, 1] bcast_S14336x128_S14336x128x1_0_1 a))
    (broadcastInDim S14336x128x32 ![0, 1, 2] bcast_S1x1x32_S14336x128x32_0_1_2
      (broadcastInDim S1x1x32 ![2] bcast_S32_S1x1x32_2 (iotaInDim S32 32 0))))
    (broadcastInDim S14336x128x32 ![] bcast_S_S14336x128x32 (constantI S_ 32 1#32))

/-- The ternary weights of the two planes. -/
def ternaryArr (a1 a2 : IVec S14336x128 32) : IVec S14336x4096 32 :=
  shapeCast S14336x4096 (muli (plane a1)
    (subi (broadcastInDim S14336x128x32 ![] bcast_S_S14336x128x32 (constantI S_ 32 1#32))
      (muli (broadcastInDim S14336x128x32 ![] bcast_S_S14336x128x32 (constantI S_ 32 2#32)) (plane a2))))
    shapeCasts_S14336x128x32_S14336x4096

theorem V_main_v21 (c : Dev nD) : V m c main_v21
    = ternaryArr (m ((c : Thread nD τ).loc main_arg1)) (m ((c : Thread nD τ).loc main_arg2)) := by
  unfold V
  after_results
  rfl

/-- A bit of a word, shifted down and masked, is `1` or `0`. -/
theorem bit_word (v : BitVec 32) (b : Fin 32) :
    IntOp.andi (IntOp.shrsi .host v (BitVec.ofNat 32 b.val)) 1#32 = if v.getLsbD b.val then 1#32 else 0#32 := by
  have hb := b.isLt
  have ht : (BitVec.ofNat 32 b.val).toNat = b.val := by rw [BitVec.toNat_ofNat]; omega
  unfold IntOp.andi IntOp.shrsi
  rw [if_pos (by rw [ht]; exact hb)]
  show v.sshiftRight (BitVec.ofNat 32 b.val).toNat &&& 1#32 = _
  rw [ht]
  ext i hi
  rw [BitVec.getElem_and, BitVec.getElem_one]
  by_cases h0 : i = 0
  · subst h0
    rw [BitVec.getElem_sshiftRight, dif_pos (by omega), ← BitVec.getLsbD_eq_getElem, Nat.add_zero]
    cases v.getLsbD b.val <;> simp
  · cases v.getLsbD b.val <;> simp [h0, BitVec.getElem_one]

/-- A plane at an element. -/
theorem plane_apply (a : IVec S14336x128 32) (n : Fin 14336) (w : Fin 128) (b : Fin 32) :
    plane a (ValueIdx.ix3 n w b) = if (a (ValueIdx.ix2 n w)).getLsbD b.val then 1#32 else 0#32 := by
  refine Eq.trans ?_ (bit_word (a (ValueIdx.ix2 n w)) b)
  unfold plane
  show IntOp.andi (IntOp.shrsi .host (broadcastInDim S14336x128x32 ![0, 1, 2] bcast_S14336x128x1_S14336x128x32_0_1_2
      (broadcastInDim S14336x128x1 ![0, 1] bcast_S14336x128_S14336x128x1_0_1 a) (ValueIdx.ix3 n w b))
    (broadcastInDim S14336x128x32 ![0, 1, 2] bcast_S1x1x32_S14336x128x32_0_1_2
      (broadcastInDim S1x1x32 ![2] bcast_S32_S1x1x32_2 (iotaInDim S32 32 0)) (ValueIdx.ix3 n w b))) 1#32 = _
  rw [broadcastInDim_apply _ _ _ _ (ValueIdx.ix3 n w 0 : S14336x128x1.Idx) (by intro a; fin_cases a <;> rfl),
    broadcastInDim_apply _ _ _ _ (ValueIdx.ix2 n w : S14336x128.Idx) (by intro a; fin_cases a <;> rfl),
    broadcastInDim_apply _ _ _ _ (ValueIdx.ix3 0 0 b : S1x1x32.Idx) (by intro a; fin_cases a <;> rfl),
    broadcastInDim_apply _ _ _ _ (ValueIdx.ix1 b : S32.Idx) (by intro a; fin_cases a <;> rfl)]
  rfl

/-- The two bits give the weight. -/
theorem ternary_word (s u : Bool) :
    (IntOp.muli (if u then 1#32 else 0#32) (IntOp.subi 1#32 (IntOp.muli 2#32 (if s then 1#32 else 0#32)))).toInt
      = Quant.ternary s u := by
  cases s <;> cases u <;> decide

/-- A weight at an element. -/
theorem ternaryArr_apply (a1 a2 : IVec S14336x128 32) (n : Fin 14336) (k : Fin 4096) :
    (ternaryArr a1 a2 (ValueIdx.ix2 n k)).toInt
      = Quant.ternary ((a2 (ValueIdx.ix2 n (⟨k.val / 32, by have := k.isLt; omega⟩ : Fin 128))).getLsbD (k.val % 32))
          ((a1 (ValueIdx.ix2 n (⟨k.val / 32, by have := k.isLt; omega⟩ : Fin 128))).getLsbD (k.val % 32)) := by
  refine Eq.trans ?_ (ternary_word _ _)
  refine congrArg BitVec.toInt ?_
  have e1 := plane_apply a1 n ⟨k.val / 32, by have := k.isLt; omega⟩ ⟨k.val % 32, by omega⟩
  have e2 := plane_apply a2 n ⟨k.val / 32, by have := k.isLt; omega⟩ ⟨k.val % 32, by omega⟩
  unfold ternaryArr
  generalize plane a1 = p1 at e1 ⊢
  generalize plane a2 = p2 at e2 ⊢
  refine (shapeCast_apply _ _ _ (ValueIdx.ix3 n (⟨k.val / 32, by have := k.isLt; omega⟩ : Fin 128) (⟨k.val % 32, by omega⟩ : Fin 32)) ?_).trans ?_
  · refine (Shape.rowMajor_val_three ..).trans (Eq.trans ?_ (Shape.rowMajor_val_two ..).symm)
    show (n.val * 128 + k.val / 32) * 32 + k.val % 32 = n.val * 4096 + k.val
    omega
  · show IntOp.muli (p1 _) (IntOp.subi 1#32 (IntOp.muli 2#32 (p2 _))) = _
    rw [e1, e2]

end Cert.ReferenceIdeal.Hand

end
-- ==== Proof.Product.lean ====
/- One element of the result, on both sides: the sum of codes by weights, times the row's scale, times the column's
   factor. The kernel doubles the weights, permutes the columns and halves the scale; the reference does neither. -/
module

public import proofs.«01_k».proof.Proof.Weight

@[expose] public section

noncomputable section

namespace Cert.Quant

open Idealize.ShloMosaic Idealize.ShloMosaic.ValueIdx Cert.Exponent
open Cert.KernelIdeal (S256x4096 S256x1 S1024x128 S4096x1024 S256x1024 S1x1024)
open Cert.ReferenceIdeal (S14336x4096 S1x14336 S256x14336)
open Cert.KernelIdeal.Hand

/-- The kernel's element, by its parts, -/
theorem kernel_elem (xq : FVec Ideal S256x4096 .fp8e4m3) (w : FVec Ideal S4096x1024 .fp8e4m3) (h : FVec Ideal S256x1 .f32)
    (a : FVec Ideal S1x1024 .bf16) (m : Fin 256) (n : Fin 1024) :
    Cert.KernelIdeal.Gen.k0_pay1 (F := Ideal) xq w h a (ix2 m n)
      = ((∑ r : Fin 4096, xq (ix2 m r) * w (ix2 r n) : EReal) * h (ix2 m 0)) * a (ix2 0 n) := by
  unfold Cert.KernelIdeal.Gen.k0_pay1
  rw [shapeCast_self]
  have h0 : (constant S256x1024 .f32 0x00000000#32 : FVec Ideal S256x1024 .f32) (ix2 m n) = 0 := Ideal.ofBits_zero_f32
  have hm : matmul Cert.KernelIdeal.dot_S256x4096_S4096x1024_S256x1024_1_0_0_1_n_n none xq w (constant S256x1024 .f32 0x00000000#32) (ix2 m n)
      = (∑ r : Fin 4096, xq (ix2 m r) * w (ix2 r n) : EReal) := by
    refine Eq.trans (show _ = _ from Ideal.matmul_plain_apply (M := 256) (K := 4096) (N := 1024) none (φ₁ := .fp8e4m3) (φ₂ := .fp8e4m3)
      xq w (constant S256x1024 .f32 0x00000000#32) m n) ?_
    rw [h0, zero_add]
  have hh : (broadcastTo S256x1024 h Cert.KernelIdeal.Gen.broadcasts_S256x1_S256x1024 : FVec Ideal S256x1024 .f32) (ix2 m n) = h (ix2 m 0) :=
    broadcastTo_apply _ _ _ (ix2 m 0 : S256x1.Idx) (by intro a; fin_cases a <;> rfl)
  have ha : (broadcastTo S256x1024 (extf .f32 a Cert.KernelIdeal.Gen.bitsLt_bf16_f32) Cert.KernelIdeal.Gen.broadcasts_S1x1024_S256x1024 : FVec Ideal S256x1024 .f32) (ix2 m n) = a (ix2 0 n) :=
    broadcastTo_apply _ _ _ (ix2 0 n : S1x1024.Idx) (by intro a; fin_cases a <;> rfl)
  rw [← hm, ← hh, ← ha]
  rfl

/-- and the reference's. -/
theorem ref_elem (x : FVec Ideal S256x4096 .bf16) (t : IVec S14336x4096 32) (a : FVec Ideal S1x14336 .bf16) (m : Fin 256) (n : Fin 14336) :
    Cert.ReferenceIdeal.Gen.k0_pay1 (F := Ideal) (Cert.ReferenceIdeal.Gen.k0_pay6 (F := Ideal) x t) a (ix2 m n)
      = ((∑ k : Fin 4096, Cert.ReferenceIdeal.Gen.k0_pay5 (F := Ideal) x (ix2 m k) * (((t (ix2 n k)).toInt : ℝ) : EReal) : EReal)
          * Cert.ReferenceIdeal.Gen.k0_pay4 (F := Ideal) x (ix2 m 0)) * a (ix2 0 n) := by
  unfold Cert.ReferenceIdeal.Gen.k0_pay1 Cert.ReferenceIdeal.Gen.k0_pay6
  dsimp only
  rw [shapeCast_self, shapeCast_self]
  generalize Cert.ReferenceIdeal.Gen.k0_pay5 (F := Ideal) x = xq
  generalize Cert.ReferenceIdeal.Gen.k0_pay4 (F := Ideal) x = h
  have h0 : (constant S256x14336 .f32 0x00000000#32 : FVec Ideal S256x14336 .f32) (ix2 m n) = 0 := Ideal.ofBits_zero_f32
  have hm : matmul Cert.ReferenceIdeal.dot_S256x4096_S14336x4096_S256x14336_1_1_0_0_n_n none xq
        (truncf .fp8e4m3 (sitofp .f32 t : FVec Ideal S14336x4096 .f32) Cert.ReferenceIdeal.Gen.bitsLt_fp8e4m3_f32) (constant S256x14336 .f32 0x00000000#32) (ix2 m n)
      = (∑ k : Fin 4096, xq (ix2 m k) * (((t (ix2 n k)).toInt : ℝ) : EReal) : EReal) := by
    refine Eq.trans (show _ = _ from Ideal.matmul_transposedRhs_apply (M := 256) (K := 4096) (N := 14336) none (φ₁ := .fp8e4m3) (φ₂ := .fp8e4m3)
      xq (truncf .fp8e4m3 (sitofp .f32 t : FVec Ideal S14336x4096 .f32) Cert.ReferenceIdeal.Gen.bitsLt_fp8e4m3_f32) (constant S256x14336 .f32 0x00000000#32) m n) ?_
    rw [h0, zero_add]
    rfl
  have hh : (broadcastTo S256x14336 h Cert.ReferenceIdeal.Gen.broadcasts_S256x1_S256x14336 : FVec Ideal S256x14336 .f32) (ix2 m n) = h (ix2 m 0) :=
    broadcastTo_apply _ _ _ (ix2 m 0 : S256x1.Idx) (by intro a; fin_cases a <;> rfl)
  have ha : (broadcastTo S256x14336 (extf .f32 a Cert.ReferenceIdeal.Gen.bitsLt_bf16_f32) Cert.ReferenceIdeal.Gen.broadcasts_S1x14336_S256x14336 : FVec Ideal S256x14336 .f32) (ix2 m n) = a (ix2 0 n) :=
    broadcastTo_apply _ _ _ (ix2 0 n : S1x14336.Idx) (by intro a; fin_cases a <;> rfl)
  rw [← hm, ← hh, ← ha]
  rfl

/-- One half. -/
theorem half_eq : Ideal.ofBits .f32 0x3F000000#32 = ((1 / 2 : ℝ) : EReal) := by
  refine (ieee_normal 8 23 0x3F000000#32 126 0 (by decide) (by decide) (by decide) (by decide) (by decide)).trans ?_
  refine congrArg _ ?_
  rw [show ((126 : ℕ) : ℤ) - (2 ^ (8 - 1) - 1) - ((23 : ℕ) : ℤ) = -24 by norm_num]
  norm_num

theorem mul_const (s : FVec Ideal S256x1 .f32) (b : BitVec 32) (i : S256x1.Idx) :
    mulf s (broadcast S256x1 (Scalar.ofBits .f32 b)) i = s i * Ideal.ofBits .f32 b := rfl

/-- The scale kept for the product is half the scale. -/
theorem halfOf_apply (x : FVec Ideal S256x4096 .bf16) (i : S256x1.Idx) :
    halfOf (F := Ideal) x i = scaleOf (F := Ideal) x i * ((1 / 2 : ℝ) : EReal) := by
  unfold halfOf
  generalize scaleOf (F := Ideal) x = s
  unfold Cert.KernelIdeal.Gen.k0_pay9
  rw [shapeCast_self]
  exact (mul_const s _ i).trans (congrArg (s i * ·) half_eq)

/-- An expanded weight is twice the ternary weight of the source column's bits. -/
theorem wOf_apply (x1 x2 : IVec S1024x128 32) (r : Fin 4096) (n : Fin 1024) :
    wOf (F := Ideal) x1 x2 (ix2 r n)
      = (((2 * (ternary ((x2 (ix2 n (⟨(src r).val / 32, by have := (src r).isLt; omega⟩ : Fin 128))).getLsbD ((src r).val % 32))
            ((x1 (ix2 n (⟨(src r).val / 32, by have := (src r).isLt; omega⟩ : Fin 128))).getLsbD ((src r).val % 32)) : ℝ) : ℝ)) : EReal) := by
  refine Eq.trans (weight_eq _ _) ?_
  simp only [src_word, src_bit]

/-- The element of the kernel's result is the element of the reference's, where the weights and the factor are the same. -/
theorem elem_eq (x : FVec Ideal S256x4096 .bf16) (hv : ∀ i, val x i < (((2 : ℝ) ^ (126 : ℤ) : ℝ) : EReal))
    (x1 x2 : IVec S1024x128 32) (x3 : FVec Ideal S1x1024 .bf16) (t : IVec S14336x4096 32) (a : FVec Ideal S1x14336 .bf16)
    (m : Fin 256) (n : Fin 1024) (N : Fin 14336)
    (ht : ∀ k : Fin 4096, (t (ix2 N k)).toInt
      = ternary ((x2 (ix2 n (⟨k.val / 32, by have := k.isLt; omega⟩ : Fin 128))).getLsbD (k.val % 32))
          ((x1 (ix2 n (⟨k.val / 32, by have := k.isLt; omega⟩ : Fin 128))).getLsbD (k.val % 32)))
    (ha : x3 (ix2 0 n) = a (ix2 0 N)) :
    yOf (F := Ideal) x x1 x2 x3 (ix2 m n)
      = Cert.ReferenceIdeal.Gen.k0_pay1 (F := Ideal) (Cert.ReferenceIdeal.Gen.k0_pay6 (F := Ideal) x t) a (ix2 m N) := by
  unfold yOf
  rw [kernel_elem, ref_elem, ha, halfOf_apply, ← scale_eq x hv, ← codes_eq x hv, scaleOf_apply x _ (hv _)]
  refine congrArg (· * a (ix2 0 N)) ?_
  have hc : ∀ k : Fin 4096, ∃ f : ℝ, codesOf (F := Ideal) x (ix2 m k) = (f : EReal) := by
    intro k
    rw [codesOf_apply x _ (hv _)]
    exact clamp_real _
  choose f hf using hc
  have e1 : (∑ r : Fin 4096, xqOf (codesOf (F := Ideal) x) (ix2 m r) * wOf (F := Ideal) x1 x2 (ix2 r n) : EReal)
      = ((2 * ∑ k : Fin 4096, f k * ((t (ix2 N k)).toInt : ℝ) : ℝ) : EReal) := by
    rw [Finset.mul_sum, ← coe_sum]
    refine Eq.trans (Finset.sum_congr rfl fun r _ => ?_)
      (Equiv.sum_comp srcEquiv fun k => ((2 * (f k * ((t (ix2 N k)).toInt : ℝ)) : ℝ) : EReal))
    rw [xqOf_apply, wOf_apply, hf, ← ht (src r), ← EReal.coe_mul]
    refine congrArg _ ?_
    show f (src r) * (2 * _) = 2 * (f (src r) * ((t (ix2 N (src r))).toInt : ℝ))
    ring
  have e2 : (∑ k : Fin 4096, codesOf (F := Ideal) x (ix2 m k) * (((t (ix2 N k)).toInt : ℝ) : EReal) : EReal)
      = ((∑ k : Fin 4096, f k * ((t (ix2 N k)).toInt : ℝ) : ℝ) : EReal) := by
    rw [← coe_sum]
    refine Finset.sum_congr rfl fun k _ => ?_
    rw [hf, ← EReal.coe_mul]
  rw [e1, e2, ← EReal.coe_mul, ← EReal.coe_mul, ← EReal.coe_mul]
  refine congrArg _ ?_
  ring

end Cert.Quant
-- ==== Proof.Equation.lean ====
/- Over the reals, with finite activations, the kernel and the reference leave the same three arrays. -/
module

public import proofs.«01_k».proof.Defs
public import proofs.«01_k».proof.Proof.KernelFinal
public import proofs.«01_k».proof.Proof.RefFinal
public import proofs.«01_k».proof.Proof.RefPrefix
public import proofs.«01_k».proof.Proof.Product
public import proofs.«01_k».proof.Proof.Bound
public import proofs.«01_k».proof.Proof.QuantRef
public import proofs.«01_k».proof.Proof.Gen.Pre_finite

@[expose] public section

noncomputable section

namespace Cert.Equation

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The activations as the kernel's block holds them. -/
def acts (c : Dev Cert.KernelIdeal.nD) : FVec Ideal Cert.KernelIdeal.S256x4096 .bf16 :=
  shapeCast Cert.KernelIdeal.S256x4096 (m ((c : Thread Cert.KernelIdeal.nD Cert.KernelIdeal.τ).loc Cert.KernelIdeal.main_arg0))
    Cert.KernelIdeal.Facts₀.shapeCasts_S1x256x4096_S256x4096

/-- Finite activations keep every row's scaled maximum in range. -/
theorem acts_lt (hpre : Cert.Pre_KernelIdeal_finite m) (c : Dev Cert.KernelIdeal.nD) (i : Cert.KernelIdeal.S256x1.Idx) :
    Cert.Quant.val (acts m c) i < (((2 : ℝ) ^ (126 : ℤ) : ℝ) : EReal) := by
  refine Cert.Quant.val_lt _ (fun y => ?_) i
  exact Cert.Quant.finite_elem _ _ _ _ (hpre c) _

/-- The two programs hold the same activations. -/
theorem ref_acts (c : Dev Cert.KernelIdeal.nD)
    (h : m' ((c : Thread Cert.ReferenceIdeal.nD Cert.ReferenceIdeal.τ).loc Cert.ReferenceIdeal.main_arg0)
      = m ((c : Thread Cert.KernelIdeal.nD Cert.KernelIdeal.τ).loc Cert.KernelIdeal.main_arg0)) :
    Cert.ReferenceIdeal.Gen.V m' c Cert.ReferenceIdeal.main_v22 = acts m c := by
  refine (Cert.ReferenceIdeal.Hand.V_main_v22 m' c).trans ?_
  rw [h]
  rfl

theorem codes (hpre : Cert.Pre_KernelIdeal_finite m) (c : Dev Cert.KernelIdeal.nD) :
    Cert.KernelIdeal.Hand.codesV m c = Cert.ReferenceIdeal.Gen.k0_pay5 (F := Ideal) (acts m c) := by
  unfold Cert.KernelIdeal.Hand.codesV
  rw [Cert.KernelIdeal.Hand.iblk0_eq]
  exact Cert.Quant.codes_eq (acts m c) (acts_lt m hpre c)

theorem scales (hpre : Cert.Pre_KernelIdeal_finite m) (c : Dev Cert.KernelIdeal.nD) :
    Cert.KernelIdeal.Hand.scaleV m c = Cert.ReferenceIdeal.Gen.k0_pay4 (F := Ideal) (acts m c) := by
  unfold Cert.KernelIdeal.Hand.scaleV
  rw [Cert.KernelIdeal.Hand.iblk0_eq]
  exact Cert.Quant.scale_eq (acts m c) (acts_lt m hpre c)

theorem product (hpre : Cert.Pre_KernelIdeal_finite m) (c : Dev Cert.KernelIdeal.nD)
    (t : IVec Cert.ReferenceIdeal.S14336x4096 32) (a : FVec Ideal Cert.ReferenceIdeal.S1x14336 .bf16)
    (ht : t = Cert.ReferenceIdeal.Hand.ternaryArr (m ((c : Thread Cert.KernelIdeal.nD Cert.KernelIdeal.τ).loc Cert.KernelIdeal.main_arg1))
      (m ((c : Thread Cert.KernelIdeal.nD Cert.KernelIdeal.τ).loc Cert.KernelIdeal.main_arg2)))
    (ha : a = shapeCast Cert.KernelIdeal.S1x14336 (m ((c : Thread Cert.KernelIdeal.nD Cert.KernelIdeal.τ).loc Cert.KernelIdeal.main_arg3))
      Cert.KernelIdeal.Facts₀.shapeCasts_S14336_S1x14336) :
    (Cert.KernelIdeal.Hand.dats m 0 c).arrAt 4 Cert.KernelIdeal.cfg0.N
      = Cert.ReferenceIdeal.Gen.k0_pay1 (F := Ideal) (Cert.ReferenceIdeal.Gen.k0_pay6 (F := Ideal) (acts m c) t) a := by
  refine Cert.KernelIdeal.Hand.final4 m c _ fun p r n => ?_
  unfold Cert.KernelIdeal.Hand.yV
  rw [Cert.KernelIdeal.Hand.iblk0_eq]
  refine Cert.Quant.elem_eq (acts m c) (acts_lt m hpre c) _ _ _ t a r n (Cert.KernelIdeal.Hand.rowAt p n) (fun k => ?_) ?_
  · rw [ht, Cert.ReferenceIdeal.Hand.ternaryArr_apply, Cert.KernelIdeal.Hand.iblk1_apply, Cert.KernelIdeal.Hand.iblk2_apply]
  · rw [ha, Cert.KernelIdeal.Hand.iblk3_apply]

/-- The claim: the two runs end with the same codes, scales and product. -/
theorem algebraic : Cert.algebraic_KernelIdeal_ReferenceIdeal_pre_finite := by
  intro m g m' g' hpre hargs
  refine ⟨fun c => (Cert.KernelIdeal.Hand.dats m 0 c).arrAt 4 Cert.KernelIdeal.cfg0.N,
    fun c => Cert.KernelIdeal.Hand.codesV m c, fun c => Cert.KernelIdeal.Hand.scaleV m c,
    Cert.KernelIdeal.Hand.run m g, ?_⟩
  refine (θ_run _ _ _).mono (fun r h c => ?_) (Cert.ReferenceIdeal.Hand.run m' g')
  obtain ⟨a0, a1, a2, a3⟩ := hargs c
  obtain ⟨h0, h1, h2, hr⟩ := h c
  refine ⟨h0.trans ?_, h1.trans ?_, h2.trans ?_, hr⟩
  · rw [ref_acts m m' c a0]
    refine (product m hpre c _ _ ?_ ?_).symm
    · refine (Cert.ReferenceIdeal.Hand.V_main_v21 m' c).trans ?_
      rw [a1, a2]
    · refine (Cert.ReferenceIdeal.Hand.V_main_v23 m' c).trans ?_
      rw [a3]
  · rw [ref_acts m m' c a0]
    exact (codes m hpre c).symm
  · rw [ref_acts m m' c a0]
    exact (scales m hpre c).symm

end Cert.Equation

end
-- ==== Proof.Same.lean ====
/- The kernel as printed and the kernel printed for the exact reading are one text, so the frame proved of the second at any
   float instance is the frame of the first. -/
module

public import proofs.«01_k».proof.Defs
public import proofs.«01_k».proof.Proof.Gen.Kernel.Frame
public import proofs.«01_k».proof.Proof.KernelValue

@[expose] public section

noncomputable section

namespace Cert.Same

open Idealize.ShloMosaic Idealize.SL.Sem

variable {F : FTy → Type} [FloatOps F]

/-- The body tables agree: label by label, the same function at the same buffers. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨n + 1, h⟩, _ => exact absurd h (Nat.not_lt.2 (Nat.le_add_left _ _))

/-- So do the tables with the pipeline's own labels. -/
theorem defs_eq : Cert.Kernel.defs (F := F) = Cert.KernelIdeal.defs (F := F) :=
  congrArg (Pipeline.defs (Cert.KernelIdeal.pcfgs (F := F))) defs₀_eq

/-- The frame of the kernel as printed. -/
theorem frame : Cert.quiescent_Kernel := by
  intro m g _
  have h := Cert.KernelIdeal.Hand.frame (F := Bits) m g
  rw [← defs_eq] at h
  exact h

end Cert.Same

end
-- ==== Proof.lean ====
/- The certificate: the three frames, the kernel against its idealisation, and the equation over the reals, each from the
   module that proves it. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_finite
public import proofs.«01_k».proof.Proof.KernelValue
public import proofs.«01_k».proof.Proof.Equation
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts, by
  refine ⟨?_, ?_, ?_, ?_, ?_, ?_, ?_⟩
  · exact Cert.Same.frame
  · exact fun m g _ => Cert.KernelIdeal.Hand.frame m g
  · exact fun m g _ => Cert.KernelIdeal.Hand.frame m g
  · exact fun m g _ => Cert.ReferenceIdeal.Gen.frame m g
  · exact fun m g _ => Cert.ReferenceIdeal.Gen.frame m g
  · exact trivial
  · exact Cert.Equation.algebraic⟩

end Cert.Proof

end
